-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  IdealRules.named_const.Statement Cert.KernelIdeal.κ "neg" .f32 0xFF61B1E6#32 ⊥
  ∧ IdealRules.named_const.Statement Cert.KernelIdeal.κ "isq" .f32 0x3DB504F3#32 ((1048576 / 11863283 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S64x128 : Shape := ⟨2, ![64, 128]⟩
abbrev S100000x128 : Shape := ⟨2, ![100000, 128]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S128x100000 : Shape := ⟨2, ![128, 100000]⟩
abbrev S64x100000 : Shape := ⟨2, ![64, 100000]⟩
abbrev S64x65 : Shape := ⟨2, ![64, 65]⟩
abbrev S64x1 : Shape := ⟨2, ![64, 1]⟩
abbrev S_ : Shape := ⟨0, ![]⟩
abbrev S64x25x4000 : Shape := ⟨3, ![64, 25, 4000]⟩
abbrev S64x25x4096 : Shape := ⟨3, ![64, 25, 4096]⟩
abbrev S64x25x32x128 : Shape := ⟨4, ![64, 25, 32, 128]⟩
abbrev S64x25x128 : Shape := ⟨3, ![64, 25, 128]⟩
abbrev S64 : Shape := ⟨1, ![64]⟩

class Facts : Prop where
  transposes_S128x128_S128x128_1_0 : S128x128.Transposes [1, 0] S128x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S1x128_S100000x128_0_1 : S1x128.BroadcastsInDim S100000x128 (![0, 1] : Fin 2 → Fin S100000x128.rank)
  transposes_S100000x128_S128x100000_1_0 : S100000x128.Transposes [1, 0] S128x100000
  sliceFits_S64x100000_S64x65 : S64x100000.Slices (fun _ => 0) S64x65
  slices_S64x65_S64x1_0_64 : S64x65.Slices ![0, 64] S64x1
  bcast_S64x1_S64x100000_0_1 : S64x1.BroadcastsInDim S64x100000 (![0, 1] : Fin 2 → Fin S64x100000.rank)
  bcast_S_S64x100000 : S_.BroadcastsInDim S64x100000 (![] : Fin 0 → Fin S64x100000.rank)
  shapeCasts_S64x100000_S64x25x4000 : S64x100000.ShapeCasts S64x25x4000
  pads_S64x25x4000_S64x25x4096_000_000_0960 : S64x25x4000.Pads (![0, 0, 0] : Fin 3 → Nat) ![0, 0, 96] ![0, 0, 0] S64x25x4096
  h_S_ : 0 < S_.numel
  shapeCasts_S64x25x4096_S64x25x32x128 : S64x25x4096.ShapeCasts S64x25x32x128
  reducesTo_S64x25x32x128_S64x25x128_d2 : S64x25x32x128.ReducesTo [2] S64x25x128
  slices_S64x65_S64x1_0_63 : S64x65.Slices ![0, 63] S64x1
  shapeCasts_S64x1_S64 : S64x1.ShapeCasts S64
  reducesTo_S64_S_d0 : S64.ReducesTo [0] S_
  bcast_S_S64x25x128 : S_.BroadcastsInDim S64x25x128 (![] : Fin 0 → Fin S64x25x128.rank)
  reducesTo_S64x25x128_S_d0_1_2 : S64x25x128.ReducesTo [0, 1, 2] S_
  reducesTo_S64x25x128_S64x128_d1 : S64x25x128.ReducesTo [1] S64x128
  bcast_S_S64x128 : S_.BroadcastsInDim S64x128 (![] : Fin 0 → Fin S64x128.rank)
  reducesTo_S64x128_S_d0_1 : S64x128.ReducesTo [0, 1] S_
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  dot_S64x128_S128x128_S64x128_1_0_0_1_n_n_wf : DotDims.WF S64x128 S128x128 S64x128 [1] [0] [0] [1] [] []
  dot_S100000x128_S128x128_S100000x128_1_0_0_1_n_n_wf : DotDims.WF S100000x128 S128x128 S100000x128 [1] [0] [0] [1] [] []
  dot_S64x128_S128x100000_S64x100000_1_0_0_1_n_n_wf : DotDims.WF S64x128 S128x100000 S64x100000 [1] [0] [0] [1] [] []

variable [Facts]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S64x128_S128x100000_S64x100000_1_0_0_1_n_n : DotDims S64x128 S128x100000 S64x100000 where
  lhsContracting := [1]
  rhsContracting := [0]
  lhsNonContracting := [0]
  rhsNonContracting := [1]
  lhsBatch := []
  rhsBatch := []
  wf := dot_S64x128_S128x100000_S64x100000_1_0_0_1_n_n_wf
def fn_where {F : FTy → Type} [FloatOps F] (arg0 : IVec S64x100000 1) (arg1 : FVec F S_ .f32) (arg2 : FVec F S_ .f32) : FVec F S64x100000 .f32 :=
  let v0 : FVec F S64x100000 .f32 := broadcastInDim S64x100000 ![] bcast_S_S64x100000 arg1
  let v1 : FVec F S64x100000 .f32 := broadcastInDim S64x100000 ![] bcast_S_S64x100000 arg2
  let v2 : FVec F S64x100000 .f32 := select arg0 v0 v1
  v2

def fn_pad {F : FTy → Type} [FloatOps F] (arg0 : FVec F S64x25x4000 .f32) (arg1 : IVec S_ 32) : FVec F S64x25x4096 .f32 :=
  let v0 : FVec F S_ .f32 := sitofp .f32 arg1
  let v1 : FVec F S64x25x4096 .f32 := (fun x v => pad S64x25x4096 ![0, 0, 0] ![0, 0, 96] ![0, 0, 0] x v pads_S64x25x4000_S64x25x4096_000_000_0960 h_S_) arg0 v0
  v1

def fn_part8 {F : FTy → Type} [FloatOps F] (main_arg14 : FVec F S128x128 .f32) (main_arg15 : FVec F S128 .f32) (main_v137 : IVec S_ 1) (main_v140 : IVec S128 1) : IVec S_ 1 :=
  let main_c_47 : IVec S_ 1 := constantI S_ 1 1#1
  let main_v141 : IVec S_ 1 := (fun x v => Host.reduce IntOp.andi x v reducesTo_S128_S_d0 h_S_) main_v140 main_c_47
  let main_v142 : IVec S_ 1 := andi main_v137 main_v141
  let main_v143 : FVec F S128x128 .f32 := Host.absf main_arg14
  let main_cst_48 : FVec F S_ .f32 := constant S_ .f32 0x7F800000#32
  let main_v144 : FVec F S128x128 .f32 := broadcastInDim S128x128 ![] bcast_S_S128x128 main_cst_48
  let main_v145 : IVec S128x128 1 := cmpf .olt main_v143 main_v144
  let main_c_49 : IVec S_ 1 := constantI S_ 1 1#1
  let main_v146 : IVec S_ 1 := (fun x v => Host.reduce IntOp.andi x v reducesTo_S128x128_S_d0_1 h_S_) main_v145 main_c_49
  let main_v147 : IVec S_ 1 := andi main_v142 main_v146
  let main_v148 : FVec F S128 .f32 := Host.absf main_arg15
  let main_cst_50 : FVec F S_ .f32 := constant S_ .f32 0x7F800000#32
  let main_v149 : FVec F S128 .f32 := broadcastInDim S128 ![] bcast_S_S128 main_cst_50
  let main_v150 : IVec S128 1 := cmpf .olt main_v148 main_v149
  let main_c_51 : IVec S_ 1 := constantI S_ 1 1#1
  let main_v151 : IVec S_ 1 := (fun x v => Host.reduce IntOp.andi x v reducesTo_S128_S_d0 h_S_) main_v150 main_c_51
  let main_v152 : IVec S_ 1 := andi main_v147 main_v151
  main_v152

def fn_part7 {F : FTy → Type} [FloatOps F] (main_arg11 : FVec F S128 .f32) (main_arg12 : FVec F S128x128 .f32) (main_arg13 : FVec F S128 .f32) (main_arg14 : FVec F S128x128 .f32) (main_arg15 : FVec F S128 .f32) (main_v122 : IVec S_ 1) (main_v123 : FVec F S128x128 .f32) : IVec S_ 1 :=
  let main_cst_40 : FVec F S_ .f32 := constant S_ .f32 0x7F800000#32
  let main_v124 : FVec F S128x128 .f32 := broadcastInDim S128x128 ![] bcast_S_S128x128 main_cst_40
  let main_v125 : IVec S128x128 1 := cmpf .olt main_v123 main_v124
  let main_c_41 : IVec S_ 1 := constantI S_ 1 1#1
  let main_v126 : IVec S_ 1 := (fun x v => Host.reduce IntOp.andi x v reducesTo_S128x128_S_d0_1 h_S_) main_v125 main_c_41
  let main_v127 : IVec S_ 1 := andi main_v122 main_v126
  let main_v128 : FVec F S128 .f32 := Host.absf main_arg11
  let main_cst_42 : FVec F S_ .f32 := constant S_ .f32 0x7F800000#32
  let main_v129 : FVec F S128 .f32 := broadcastInDim S128 ![] bcast_S_S128 main_cst_42
  let main_v130 : IVec S128 1 := cmpf .olt main_v128 main_v129
  let main_c_43 : IVec S_ 1 := constantI S_ 1 1#1
  let main_v131 : IVec S_ 1 := (fun x v => Host.reduce IntOp.andi x v reducesTo_S128_S_d0 h_S_) main_v130 main_c_43
  let main_v132 : IVec S_ 1 := andi main_v127 main_v131
  let main_v133 : FVec F S128x128 .f32 := Host.absf main_arg12
  let main_cst_44 : FVec F S_ .f32 := constant S_ .f32 0x7F800000#32
  let main_v134 : FVec F S128x128 .f32 := broadcastInDim S128x128 ![] bcast_S_S128x128 main_cst_44
  let main_v135 : IVec S128x128 1 := cmpf .olt main_v133 main_v134
  let main_c_45 : IVec S_ 1 := constantI S_ 1 1#1
  let main_v136 : IVec S_ 1 := (fun x v => Host.reduce IntOp.andi x v reducesTo_S128x128_S_d0_1 h_S_) main_v135 main_c_45
  let main_v137 : IVec S_ 1 := andi main_v132 main_v136
  let main_v138 : FVec F S128 .f32 := Host.absf main_arg13
  let main_cst_46 : FVec F S_ .f32 := constant S_ .f32 0x7F800000#32
  let main_v139 : FVec F S128 .f32 := broadcastInDim S128 ![] bcast_S_S128 main_cst_46
  let main_v140 : IVec S128 1 := cmpf .olt main_v138 main_v139
  fn_part8 (F := F) main_arg14 main_arg15 main_v137 main_v140

def fn_part6 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v102 : IVec S_ 1) (main_v105 : IVec S128x128 1) (main_c_33 : IVec S_ 1) : IVec S_ 1 :=
  let main_v106 : IVec S_ 1 := (fun x v => Host.reduce IntOp.andi x v reducesTo_S128x128_S_d0_1 h_S_) main_v105 main_c_33
  let main_v107 : IVec S_ 1 := andi main_v102 main_v106
  let main_v108 : FVec F S128 .f32 := Host.absf main_arg7
  let main_cst_34 : FVec F S_ .f32 := constant S_ .f32 0x7F800000#32
  let main_v109 : FVec F S128 .f32 := broadcastInDim S128 ![] bcast_S_S128 main_cst_34
  let main_v110 : IVec S128 1 := cmpf .olt main_v108 main_v109
  let main_c_35 : IVec S_ 1 := constantI S_ 1 1#1
  let main_v111 : IVec S_ 1 := (fun x v => Host.reduce IntOp.andi x v reducesTo_S128_S_d0 h_S_) main_v110 main_c_35
  let main_v112 : IVec S_ 1 := andi main_v107 main_v111
  let main_v113 : FVec F S128x128 .f32 := Host.absf main_arg8
  let main_cst_36 : FVec F S_ .f32 := constant S_ .f32 0x7F800000#32
  let main_v114 : FVec F S128x128 .f32 := broadcastInDim S128x128 ![] bcast_S_S128x128 main_cst_36
  let main_v115 : IVec S128x128 1 := cmpf .olt main_v113 main_v114
  let main_c_37 : IVec S_ 1 := constantI S_ 1 1#1
  let main_v116 : IVec S_ 1 := (fun x v => Host.reduce IntOp.andi x v reducesTo_S128x128_S_d0_1 h_S_) main_v115 main_c_37
  let main_v117 : IVec S_ 1 := andi main_v112 main_v116
  let main_v118 : FVec F S128 .f32 := Host.absf main_arg9
  let main_cst_38 : FVec F S_ .f32 := constant S_ .f32 0x7F800000#32
  let main_v119 : FVec F S128 .f32 := broadcastInDim S128 ![] bcast_S_S128 main_cst_38
  let main_v120 : IVec S128 1 := cmpf .olt main_v118 main_v119
  let main_c_39 : IVec S_ 1 := constantI S_ 1 1#1
  let main_v121 : IVec S_ 1 := (fun x v => Host.reduce IntOp.andi x v reducesTo_S128_S_d0 h_S_) main_v120 main_c_39
  let main_v122 : IVec S_ 1 := andi main_v117 main_v121
  let main_v123 : FVec F S128x128 .f32 := Host.absf main_arg10
  fn_part7 (F := F) main_arg11 main_arg12 main_arg13 main_arg14 main_arg15 main_v122 main_v123

def fn_part5 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v87 : IVec S_ 1) (main_v88 : FVec F S100000x128 .f32) (main_cst_26 : FVec F S_ .f32) : IVec S_ 1 :=
  let main_v89 : FVec F S100000x128 .f32 := broadcastInDim S100000x128 ![] bcast_S_S100000x128 main_cst_26
  let main_v90 : IVec S100000x128 1 := cmpf .olt main_v88 main_v89
  let main_c_27 : IVec S_ 1 := constantI S_ 1 1#1
  let main_v91 : IVec S_ 1 := (fun x v => Host.reduce IntOp.andi x v reducesTo_S100000x128_S_d0_1 h_S_) main_v90 main_c_27
  let main_v92 : IVec S_ 1 := andi main_v87 main_v91
  let main_v93 : FVec F S128x128 .f32 := Host.absf main_arg4
  let main_cst_28 : FVec F S_ .f32 := constant S_ .f32 0x7F800000#32
  let main_v94 : FVec F S128x128 .f32 := broadcastInDim S128x128 ![] bcast_S_S128x128 main_cst_28
  let main_v95 : IVec S128x128 1 := cmpf .olt main_v93 main_v94
  let main_c_29 : IVec S_ 1 := constantI S_ 1 1#1
  let main_v96 : IVec S_ 1 := (fun x v => Host.reduce IntOp.andi x v reducesTo_S128x128_S_d0_1 h_S_) main_v95 main_c_29
  let main_v97 : IVec S_ 1 := andi main_v92 main_v96
  let main_v98 : FVec F S128 .f32 := Host.absf main_arg5
  let main_cst_30 : FVec F S_ .f32 := constant S_ .f32 0x7F800000#32
  let main_v99 : FVec F S128 .f32 := broadcastInDim S128 ![] bcast_S_S128 main_cst_30
  let main_v100 : IVec S128 1 := cmpf .olt main_v98 main_v99
  let main_c_31 : IVec S_ 1 := constantI S_ 1 1#1
  let main_v101 : IVec S_ 1 := (fun x v => Host.reduce IntOp.andi x v reducesTo_S128_S_d0 h_S_) main_v100 main_c_31
  let main_v102 : IVec S_ 1 := andi main_v97 main_v101
  let main_v103 : FVec F S128x128 .f32 := Host.absf main_arg6
  let main_cst_32 : FVec F S_ .f32 := constant S_ .f32 0x7F800000#32
  let main_v104 : FVec F S128x128 .f32 := broadcastInDim S128x128 ![] bcast_S_S128x128 main_cst_32
  let main_v105 : IVec S128x128 1 := cmpf .olt main_v103 main_v104
  let main_c_33 : IVec S_ 1 := constantI S_ 1 1#1
  fn_part6 (F := F) main_arg7 main_arg8 main_arg9 main_arg10 main_arg11 main_arg12 main_arg13 main_arg14 main_arg15 main_v102 main_v105 main_c_33

def fn_part4 {F : FTy → Type} [FloatOps F] (main_arg0 : FVec F S64x128 .f32) (main_arg1 : FVec F S64x128 .f32) (main_arg2 : FVec F S100000x128 .f32) (main_arg3 : FVec F S100000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v35 : IVec S_ 1) (main_v71 : IVec S_ 1) : IVec S_ 1 :=
  let main_v72 : IVec S_ 1 := andi main_v35 main_v71
  let main_v73 : FVec F S64x128 .f32 := Host.absf main_arg0
  let main_cst_20 : FVec F S_ .f32 := constant S_ .f32 0x7F800000#32
  let main_v74 : FVec F S64x128 .f32 := broadcastInDim S64x128 ![] bcast_S_S64x128 main_cst_20
  let main_v75 : IVec S64x128 1 := cmpf .olt main_v73 main_v74
  let main_c_21 : IVec S_ 1 := constantI S_ 1 1#1
  let main_v76 : IVec S_ 1 := (fun x v => Host.reduce IntOp.andi x v reducesTo_S64x128_S_d0_1 h_S_) main_v75 main_c_21
  let main_v77 : IVec S_ 1 := andi main_v72 main_v76
  let main_v78 : FVec F S64x128 .f32 := Host.absf main_arg1
  let main_cst_22 : FVec F S_ .f32 := constant S_ .f32 0x7F800000#32
  let main_v79 : FVec F S64x128 .f32 := broadcastInDim S64x128 ![] bcast_S_S64x128 main_cst_22
  let main_v80 : IVec S64x128 1 := cmpf .olt main_v78 main_v79
  let main_c_23 : IVec S_ 1 := constantI S_ 1 1#1
  let main_v81 : IVec S_ 1 := (fun x v => Host.reduce IntOp.andi x v reducesTo_S64x128_S_d0_1 h_S_) main_v80 main_c_23
  let main_v82 : IVec S_ 1 := andi main_v77 main_v81
  let main_v83 : FVec F S100000x128 .f32 := Host.absf main_arg2
  let main_cst_24 : FVec F S_ .f32 := constant S_ .f32 0x7F800000#32
  let main_v84 : FVec F S100000x128 .f32 := broadcastInDim S100000x128 ![] bcast_S_S100000x128 main_cst_24
  let main_v85 : IVec S100000x128 1 := cmpf .olt main_v83 main_v84
  let main_c_25 : IVec S_ 1 := constantI S_ 1 1#1
  let main_v86 : IVec S_ 1 := (fun x v => Host.reduce IntOp.andi x v reducesTo_S100000x128_S_d0_1 h_S_) main_v85 main_c_25
  let main_v87 : IVec S_ 1 := andi main_v82 main_v86
  let main_v88 : FVec F S100000x128 .f32 := Host.absf main_arg3
  let main_cst_26 : FVec F S_ .f32 := constant S_ .f32 0x7F800000#32
  fn_part5 (F := F) main_arg4 main_arg5 main_arg6 main_arg7 main_arg8 main_arg9 main_arg10 main_arg11 main_arg12 main_arg13 main_arg14 main_arg15 main_v87 main_v88 main_cst_26

def fn_part3 {F : FTy → Type} [FloatOps F] (main_arg0 : FVec F S64x128 .f32) (main_arg1 : FVec F S64x128 .f32) (main_arg2 : FVec F S100000x128 .f32) (main_arg3 : FVec F S100000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v35 : IVec S_ 1) (main_values_8 : FVec F S64x65 .f32) (main_v54 : FVec F S64x25x32x128 .f32) : IVec S_ 1 :=
  let main_v55 : FVec F S64x25x32x128 .f32 := id main_v54
  let main_cst_13 : FVec F S_ .f32 := constant S_ .f32 0x00000000#32
  let main_v56 : FVec F S64x25x128 .f32 := (fun x v => Host.reduceAdd x v reducesTo_S64x25x32x128_S64x25x128_d2 h_S_) main_v55 main_cst_13
  let main_v57 : FVec F S64x1 .f32 := (extractStridedSlice S64x1 ![0, 63] · slices_S64x65_S64x1_0_63) main_values_8
  let main_v58 : FVec F S64 .f32 := shapeCast S64 main_v57 shapeCasts_S64x1_S64
  let main_v59 : FVec F S64x1 .f32 := (extractStridedSlice S64x1 ![0, 64] · slices_S64x65_S64x1_0_64) main_values_8
  let main_v60 : FVec F S64 .f32 := shapeCast S64 main_v59 shapeCasts_S64x1_S64
  let main_v61 : IVec S64 1 := cmpf .ogt main_v58 main_v60
  let main_c_14 : IVec S_ 1 := constantI S_ 1 1#1
  let main_v62 : IVec S_ 1 := (fun x v => Host.reduce IntOp.andi x v reducesTo_S64_S_d0 h_S_) main_v61 main_c_14
  let main_cst_15 : FVec F S_ .f32 := constant S_ .f32 0x40A00000#32
  let main_v63 : FVec F S64x25x128 .f32 := broadcastInDim S64x25x128 ![] bcast_S_S64x25x128 main_cst_15
  let main_v64 : IVec S64x25x128 1 := cmpf .ole main_v56 main_v63
  let main_c_16 : IVec S_ 1 := constantI S_ 1 1#1
  let main_v65 : IVec S_ 1 := (fun x v => Host.reduce IntOp.andi x v reducesTo_S64x25x128_S_d0_1_2 h_S_) main_v64 main_c_16
  let main_v66 : IVec S_ 1 := andi main_v62 main_v65
  let main_cst_17 : FVec F S_ .f32 := constant S_ .f32 0x00000000#32
  let main_v67 : FVec F S64x128 .f32 := (fun x v => Host.reduceAdd x v reducesTo_S64x25x128_S64x128_d1 h_S_) main_v56 main_cst_17
  let main_cst_18 : FVec F S_ .f32 := constant S_ .f32 0x41200000#32
  let main_v68 : FVec F S64x128 .f32 := broadcastInDim S64x128 ![] bcast_S_S64x128 main_cst_18
  let main_v69 : IVec S64x128 1 := cmpf .ole main_v67 main_v68
  let main_c_19 : IVec S_ 1 := constantI S_ 1 1#1
  let main_v70 : IVec S_ 1 := (fun x v => Host.reduce IntOp.andi x v reducesTo_S64x128_S_d0_1 h_S_) main_v69 main_c_19
  let main_v71 : IVec S_ 1 := andi main_v66 main_v70
  fn_part4 (F := F) main_arg0 main_arg1 main_arg2 main_arg3 main_arg4 main_arg5 main_arg6 main_arg7 main_arg8 main_arg9 main_arg10 main_arg11 main_arg12 main_arg13 main_arg14 main_arg15 main_v35 main_v71

def fn_part2 {F : FTy → Type} [FloatOps F] (main_arg0 : FVec F S64x128 .f32) (main_arg1 : FVec F S64x128 .f32) (main_arg2 : FVec F S100000x128 .f32) (main_arg3 : FVec F S100000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v35 : IVec S_ 1) : IVec S_ 1 :=
  let main_v36 : FVec F S128x128 .f32 := (transpose S128x128 [1, 0] · transposes_S128x128_S128x128_1_0) main_arg4
  let main_v37 : FVec F S64x128 .f32 := (fun l r => Host.dotGeneral dot_S64x128_S128x128_S64x128_1_0_0_1_n_n none l r) main_arg0 main_v36
  let main_v38 : FVec F S1x128 .f32 := broadcastInDim S1x128 ![1] bcast_S128_S1x128_1 main_arg5
  let main_v39 : FVec F S64x128 .f32 := broadcastInDim S64x128 ![0, 1] bcast_S1x128_S64x128_0_1 main_v38
  let main_v40 : FVec F S64x128 .f32 := addf main_v37 main_v39
  let main_v41 : FVec F S128x128 .f32 := (transpose S128x128 [1, 0] · transposes_S128x128_S128x128_1_0) main_arg10
  let main_v42 : FVec F S100000x128 .f32 := (fun l r => Host.dotGeneral dot_S100000x128_S128x128_S100000x128_1_0_0_1_n_n none l r) main_arg3 main_v41
  let main_v43 : FVec F S1x128 .f32 := broadcastInDim S1x128 ![1] bcast_S128_S1x128_1 main_arg11
  let main_v44 : FVec F S100000x128 .f32 := broadcastInDim S100000x128 ![0, 1] bcast_S1x128_S100000x128_0_1 main_v43
  let main_v45 : FVec F S100000x128 .f32 := addf main_v42 main_v44
  let main_v46 : FVec F S128x100000 .f32 := (transpose S128x100000 [1, 0] · transposes_S100000x128_S128x100000_1_0) main_v45
  let main_v47 : FVec F S64x100000 .f32 := (fun l r => Host.dotGeneral dot_S64x128_S128x100000_S64x100000_1_0_0_1_n_n none l r) main_v40 main_v46
  let main_values_8 : FVec F S64x65 .f32 := (fun x => (Host.topK S64x65 1 (FloatOps.cmpfTotal .gt) x sliceFits_S64x100000_S64x65).1) main_v47
  let main_indices_9 : IVec S64x65 32 := (fun x => (Host.topK S64x65 1 (FloatOps.cmpfTotal .gt) x sliceFits_S64x100000_S64x65).2) main_v47
  let main_v48 : FVec F S64x1 .f32 := (extractStridedSlice S64x1 ![0, 64] · slices_S64x65_S64x1_0_64) main_values_8
  let main_v49 : FVec F S64x100000 .f32 := broadcastInDim S64x100000 ![0, 1] bcast_S64x1_S64x100000_0_1 main_v48
  let main_v50 : IVec S64x100000 1 := cmpf .oge main_v47 main_v49
  let main_cst_10 : FVec F S_ .f32 := constant S_ .f32 0x3F800000#32
  let main_cst_11 : FVec F S_ .f32 := constant S_ .f32 0x00000000#32
  let main_v51 : FVec F S64x100000 .f32 := fn_where (F := F) main_v50 main_cst_10 main_cst_11
  let main_v52 : FVec F S64x25x4000 .f32 := shapeCast S64x25x4000 main_v51 shapeCasts_S64x100000_S64x25x4000
  let main_c_12 : IVec S_ 32 := constantI S_ 32 0#32
  let main_v53 : FVec F S64x25x4096 .f32 := fn_pad (F := F) main_v52 main_c_12
  let main_v54 : FVec F S64x25x32x128 .f32 := shapeCast S64x25x32x128 main_v53 shapeCasts_S64x25x4096_S64x25x32x128
  fn_part3 (F := F) main_arg0 main_arg1 main_arg2 main_arg3 main_arg4 main_arg5 main_arg6 main_arg7 main_arg8 main_arg9 main_arg10 main_arg11 main_arg12 main_arg13 main_arg14 main_arg15 main_v35 main_values_8 main_v54

def fn_part1 {F : FTy → Type} [FloatOps F] (main_arg0 : FVec F S64x128 .f32) (main_arg1 : FVec F S64x128 .f32) (main_arg2 : FVec F S100000x128 .f32) (main_arg3 : FVec F S100000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_values : FVec F S64x65 .f32) (main_v18 : FVec F S64x25x32x128 .f32) : IVec S_ 1 :=
  let main_v19 : FVec F S64x25x32x128 .f32 := id main_v18
  let main_cst_1 : FVec F S_ .f32 := constant S_ .f32 0x00000000#32
  let main_v20 : FVec F S64x25x128 .f32 := (fun x v => Host.reduceAdd x v reducesTo_S64x25x32x128_S64x25x128_d2 h_S_) main_v19 main_cst_1
  let main_v21 : FVec F S64x1 .f32 := (extractStridedSlice S64x1 ![0, 63] · slices_S64x65_S64x1_0_63) main_values
  let main_v22 : FVec F S64 .f32 := shapeCast S64 main_v21 shapeCasts_S64x1_S64
  let main_v23 : FVec F S64x1 .f32 := (extractStridedSlice S64x1 ![0, 64] · slices_S64x65_S64x1_0_64) main_values
  let main_v24 : FVec F S64 .f32 := shapeCast S64 main_v23 shapeCasts_S64x1_S64
  let main_v25 : IVec S64 1 := cmpf .ogt main_v22 main_v24
  let main_c_2 : IVec S_ 1 := constantI S_ 1 1#1
  let main_v26 : IVec S_ 1 := (fun x v => Host.reduce IntOp.andi x v reducesTo_S64_S_d0 h_S_) main_v25 main_c_2
  let main_cst_3 : FVec F S_ .f32 := constant S_ .f32 0x40A00000#32
  let main_v27 : FVec F S64x25x128 .f32 := broadcastInDim S64x25x128 ![] bcast_S_S64x25x128 main_cst_3
  let main_v28 : IVec S64x25x128 1 := cmpf .ole main_v20 main_v27
  let main_c_4 : IVec S_ 1 := constantI S_ 1 1#1
  let main_v29 : IVec S_ 1 := (fun x v => Host.reduce IntOp.andi x v reducesTo_S64x25x128_S_d0_1_2 h_S_) main_v28 main_c_4
  let main_v30 : IVec S_ 1 := andi main_v26 main_v29
  let main_cst_5 : FVec F S_ .f32 := constant S_ .f32 0x00000000#32
  let main_v31 : FVec F S64x128 .f32 := (fun x v => Host.reduceAdd x v reducesTo_S64x25x128_S64x128_d1 h_S_) main_v20 main_cst_5
  let main_cst_6 : FVec F S_ .f32 := constant S_ .f32 0x41200000#32
  let main_v32 : FVec F S64x128 .f32 := broadcastInDim S64x128 ![] bcast_S_S64x128 main_cst_6
  let main_v33 : IVec S64x128 1 := cmpf .ole main_v31 main_v32
  let main_c_7 : IVec S_ 1 := constantI S_ 1 1#1
  let main_v34 : IVec S_ 1 := (fun x v => Host.reduce IntOp.andi x v reducesTo_S64x128_S_d0_1 h_S_) main_v33 main_c_7
  let main_v35 : IVec S_ 1 := andi main_v30 main_v34
  fn_part2 (F := F) main_arg0 main_arg1 main_arg2 main_arg3 main_arg4 main_arg5 main_arg6 main_arg7 main_arg8 main_arg9 main_arg10 main_arg11 main_arg12 main_arg13 main_arg14 main_arg15 main_v35

def fn {F : FTy → Type} [FloatOps F] (main_arg0 : FVec F S64x128 .f32) (main_arg1 : FVec F S64x128 .f32) (main_arg2 : FVec F S100000x128 .f32) (main_arg3 : FVec F S100000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x256 .f32) (main_arg17 : FVec F S128 .f32) (main_arg18 : FVec F S128x256 .f32) (main_arg19 : FVec F S128 .f32) (main_arg20 : FVec F S128x128 .f32) (main_arg21 : FVec F S128 .f32) (main_arg22 : FVec F S128x128 .f32) (main_arg23 : FVec F S128 .f32) : IVec S_ 1 :=
  let main_v0 : FVec F S128x128 .f32 := (transpose S128x128 [1, 0] · transposes_S128x128_S128x128_1_0) main_arg6
  let main_v1 : FVec F S64x128 .f32 := (fun l r => Host.dotGeneral dot_S64x128_S128x128_S64x128_1_0_0_1_n_n none l r) main_arg1 main_v0
  let main_v2 : FVec F S1x128 .f32 := broadcastInDim S1x128 ![1] bcast_S128_S1x128_1 main_arg7
  let main_v3 : FVec F S64x128 .f32 := broadcastInDim S64x128 ![0, 1] bcast_S1x128_S64x128_0_1 main_v2
  let main_v4 : FVec F S64x128 .f32 := addf main_v1 main_v3
  let main_v5 : FVec F S128x128 .f32 := (transpose S128x128 [1, 0] · transposes_S128x128_S128x128_1_0) main_arg8
  let main_v6 : FVec F S100000x128 .f32 := (fun l r => Host.dotGeneral dot_S100000x128_S128x128_S100000x128_1_0_0_1_n_n none l r) main_arg2 main_v5
  let main_v7 : FVec F S1x128 .f32 := broadcastInDim S1x128 ![1] bcast_S128_S1x128_1 main_arg9
  let main_v8 : FVec F S100000x128 .f32 := broadcastInDim S100000x128 ![0, 1] bcast_S1x128_S100000x128_0_1 main_v7
  let main_v9 : FVec F S100000x128 .f32 := addf main_v6 main_v8
  let main_v10 : FVec F S128x100000 .f32 := (transpose S128x100000 [1, 0] · transposes_S100000x128_S128x100000_1_0) main_v9
  let main_v11 : FVec F S64x100000 .f32 := (fun l r => Host.dotGeneral dot_S64x128_S128x100000_S64x100000_1_0_0_1_n_n none l r) main_v4 main_v10
  let main_values : FVec F S64x65 .f32 := (fun x => (Host.topK S64x65 1 (FloatOps.cmpfTotal .gt) x sliceFits_S64x100000_S64x65).1) main_v11
  let main_indices : IVec S64x65 32 := (fun x => (Host.topK S64x65 1 (FloatOps.cmpfTotal .gt) x sliceFits_S64x100000_S64x65).2) main_v11
  let main_v12 : FVec F S64x1 .f32 := (extractStridedSlice S64x1 ![0, 64] · slices_S64x65_S64x1_0_64) main_values
  let main_v13 : FVec F S64x100000 .f32 := broadcastInDim S64x100000 ![0, 1] bcast_S64x1_S64x100000_0_1 main_v12
  let main_v14 : IVec S64x100000 1 := cmpf .oge main_v11 main_v13
  let main_cst : FVec F S_ .f32 := constant S_ .f32 0x3F800000#32
  let main_cst_0 : FVec F S_ .f32 := constant S_ .f32 0x00000000#32
  let main_v15 : FVec F S64x100000 .f32 := fn_where (F := F) main_v14 main_cst main_cst_0
  let main_v16 : FVec F S64x25x4000 .f32 := shapeCast S64x25x4000 main_v15 shapeCasts_S64x100000_S64x25x4000
  let main_c : IVec S_ 32 := constantI S_ 32 0#32
  let main_v17 : FVec F S64x25x4096 .f32 := fn_pad (F := F) main_v16 main_c
  let main_v18 : FVec F S64x25x32x128 .f32 := shapeCast S64x25x32x128 main_v17 shapeCasts_S64x25x4096_S64x25x32x128
  fn_part1 (F := F) main_arg0 main_arg1 main_arg2 main_arg3 main_arg4 main_arg5 main_arg6 main_arg7 main_arg8 main_arg9 main_arg10 main_arg11 main_arg12 main_arg13 main_arg14 main_arg15 main_values main_v18
-- ==== Kernel.lean ====
abbrev S64x128 : Shape := ⟨2, ![64, 128]⟩
abbrev S100000x128 : Shape := ⟨2, ![100000, 128]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S64x16000 : Shape := ⟨2, ![64, 16000]⟩
abbrev S4000x128 : Shape := ⟨2, ![4000, 128]⟩
abbrev S64x640 : Shape := ⟨2, ![64, 640]⟩
abbrev S128x4000 : Shape := ⟨2, ![128, 4000]⟩
abbrev S64x4000 : Shape := ⟨2, ![64, 4000]⟩
abbrev S64x32 : Shape := ⟨2, ![64, 32]⟩
abbrev S64x96 : Shape := ⟨2, ![64, 96]⟩
abbrev S64x1280 : Shape := ⟨2, ![64, 1280]⟩
abbrev S64x1 : Shape := ⟨2, ![64, 1]⟩
abbrev S64 : Shape := ⟨1, ![64]⟩
abbrev S1x64 : Shape := ⟨2, ![1, 64]⟩
abbrev S64x256 : Shape := ⟨2, ![64, 256]⟩
abbrev S256x128 : Shape := ⟨2, ![256, 128]⟩

abbrev nBuf : Space → Nat
  | .hbm => 46
  | .vmem => 61
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S100000x128, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x256, .f32⟩
  | .hbm, ⟨17, _⟩ => ⟨S128, .f32⟩
  | .hbm, ⟨18, _⟩ => ⟨S128x256, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128x128, .f32⟩
  | .hbm, ⟨23, _⟩ => ⟨S128, .f32⟩
  | .hbm, ⟨24, _⟩ => ⟨S1x128, .f32⟩
  | .hbm, ⟨25, _⟩ => ⟨S64x16000, .f32⟩
  | .hbm, ⟨26, _⟩ => ⟨S64x128, .f32⟩
  | .hbm, ⟨27, _⟩ => ⟨S64x128, .f32⟩
  | .hbm, ⟨28, _⟩ => ⟨S1x128, .f32⟩
  | .hbm, ⟨29, _⟩ => ⟨S64x128, .f32⟩
  | .hbm, ⟨30, _⟩ => ⟨S64x128, .f32⟩
  | .hbm, ⟨31, _⟩ => ⟨S1x128, .f32⟩
  | .hbm, ⟨32, _⟩ => ⟨S64x16000, .f32⟩
  | .hbm, ⟨33, _⟩ => ⟨S64x128, .f32⟩
  | .hbm, ⟨34, _⟩ => ⟨S64x128, .f32⟩
  | .hbm, ⟨35, _⟩ => ⟨S1x128, .f32⟩
  | .hbm, ⟨36, _⟩ => ⟨S64x128, .f32⟩
  | .hbm, ⟨37, _⟩ => ⟨S64x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x64, .f32⟩
  | .hbm, ⟨45, _⟩ => ⟨S64, .f32⟩
  | .local _ .vmem, ⟨0, _⟩ => ⟨S64x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S4000x128, .f32⟩
  | .local _ .vmem, ⟨5, _⟩ => ⟨S4000x128, .f32⟩
  | .local _ .vmem, ⟨6, _⟩ => ⟨S64x640, .f32⟩
  | .local _ .vmem, ⟨7, _⟩ => ⟨S64x640, .f32⟩
  | .local _ .vmem, ⟨8, _⟩ => ⟨S64x16000, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S4000x128, .f32⟩
  | .local _ .vmem, ⟨16, _⟩ => ⟨S4000x128, .f32⟩
  | .local _ .vmem, ⟨17, _⟩ => ⟨S64x128, .f32⟩
  | .local _ .vmem, ⟨18, _⟩ => ⟨S64x128, .f32⟩
  | .local _ .vmem, ⟨19, _⟩ => ⟨S64x128, .f32⟩
  | .local _ .vmem, ⟨20, _⟩ => ⟨S64x128, .f32⟩
  | .local _ .vmem, ⟨21, _⟩ => ⟨S64x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S4000x128, .f32⟩
  | .local _ .vmem, ⟨26, _⟩ => ⟨S4000x128, .f32⟩
  | .local _ .vmem, ⟨27, _⟩ => ⟨S64x640, .f32⟩
  | .local _ .vmem, ⟨28, _⟩ => ⟨S64x640, .f32⟩
  | .local _ .vmem, ⟨29, _⟩ => ⟨S64x16000, .f32⟩
  | .local _ .vmem, ⟨30, _⟩ => ⟨S64x128, .f32⟩
  | .local _ .vmem, ⟨31, _⟩ => ⟨S64x128, .f32⟩
  | .local _ .vmem, ⟨32, _⟩ => ⟨S64x128, .f32⟩
  | .local _ .vmem, ⟨33, _⟩ => ⟨S128x128, .f32⟩
  | .local _ .vmem, ⟨34, _⟩ => ⟨S1x128, .f32⟩
  | .local _ .vmem, ⟨35, _⟩ => ⟨S128x128, .f32⟩
  | .local _ .vmem, ⟨36, _⟩ => ⟨S4000x128, .f32⟩
  | .local _ .vmem, ⟨37, _⟩ => ⟨S4000x128, .f32⟩
  | .local _ .vmem, ⟨38, _⟩ => ⟨S64x128, .f32⟩
  | .local _ .vmem, ⟨39, _⟩ => ⟨S64x128, .f32⟩
  | .local _ .vmem, ⟨40, _⟩ => ⟨S64x128, .f32⟩
  | .local _ .vmem, ⟨41, _⟩ => ⟨S64x128, .f32⟩
  | .local _ .vmem, ⟨42, _⟩ => ⟨S64x128, .f32⟩
  | .local _ .vmem, ⟨43, _⟩ => ⟨S64x128, .f32⟩
  | .local _ .vmem, ⟨44, _⟩ => ⟨S64x128, .f32⟩
  | .local _ .vmem, ⟨45, _⟩ => ⟨S64x128, .f32⟩
  | .local _ .vmem, ⟨46, _⟩ => ⟨S64x128, .f32⟩
  | .local _ .vmem, ⟨47, _⟩ => ⟨S64x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S128x256, .f32⟩
  | .local _ .vmem, ⟨53, _⟩ => ⟨S1x128, .f32⟩
  | .local _ .vmem, ⟨54, _⟩ => ⟨S128x128, .f32⟩
  | .local _ .vmem, ⟨55, _⟩ => ⟨S1x128, .f32⟩
  | .local _ .vmem, ⟨56, _⟩ => ⟨S128x256, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S1x64, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2_0 : Ref sig .tc := ⟨.hbm, 26, rfl⟩
abbrev main_v2_1 : Ref sig .tc := ⟨.hbm, 27, rfl⟩
abbrev main_v3 : Ref sig .tc := ⟨.hbm, 28, rfl⟩
abbrev main_v4_0 : Ref sig .tc := ⟨.hbm, 29, rfl⟩
abbrev main_v4_1 : Ref sig .tc := ⟨.hbm, 30, rfl⟩
abbrev main_v5 : Ref sig .tc := ⟨.hbm, 31, rfl⟩
abbrev main_v6 : Ref sig .tc := ⟨.hbm, 32, rfl⟩
abbrev main_v7_0 : Ref sig .tc := ⟨.hbm, 33, rfl⟩
abbrev main_v7_1 : Ref sig .tc := ⟨.hbm, 34, rfl⟩
abbrev main_v8 : Ref sig .tc := ⟨.hbm, 35, rfl⟩
abbrev main_v9_0 : Ref sig .tc := ⟨.hbm, 36, rfl⟩
abbrev main_v9_1 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg4_1 : Ref sig .tc := ⟨.vmem, 26, rfl⟩
abbrev cc3_stg5_0 : Ref sig .tc := ⟨.vmem, 27, rfl⟩
abbrev cc3_stg5_1 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg2_0 : Ref sig .tc := ⟨.vmem, 31, rfl⟩
abbrev cc5_stg0_0 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc5_stg5_0 : Ref sig .tc := ⟨.vmem, 38, rfl⟩
abbrev cc5_stg6_0 : Ref sig .tc := ⟨.vmem, 39, rfl⟩
abbrev cc5_stg7_0 : Ref sig .tc := ⟨.vmem, 40, rfl⟩
abbrev cc5_stg8_0 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc6_stg7_0 : Ref sig .tc := ⟨.vmem, 49, rfl⟩
abbrev cc6_stg8_0 : Ref sig .tc := ⟨.vmem, 50, rfl⟩
abbrev cc6_stg9_0 : Ref sig .tc := ⟨.vmem, 51, rfl⟩
abbrev cc6_stg10_0 : Ref sig .tc := ⟨.vmem, 52, rfl⟩
abbrev cc6_stg11_0 : Ref sig .tc := ⟨.vmem, 53, rfl⟩
abbrev cc6_stg12_0 : Ref sig .tc := ⟨.vmem, 54, rfl⟩
abbrev cc6_stg13_0 : Ref sig .tc := ⟨.vmem, 55, rfl⟩
abbrev cc6_stg14_0 : Ref sig .tc := ⟨.vmem, 56, rfl⟩
abbrev cc6_stg15_0 : Ref sig .tc := ⟨.vmem, 57, rfl⟩
abbrev cc6_stg16_0 : Ref sig .tc := ⟨.vmem, 58, rfl⟩
abbrev cc6_stg17_0 : Ref sig .tc := ⟨.vmem, 59, rfl⟩
abbrev cc6_stg18_0 : Ref sig .tc := ⟨.vmem, 60, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc2_sem5_0 : DmaSem sig := 17
abbrev cc2_sem6_0 : DmaSem sig := 18
abbrev cc2_sem7_0 : DmaSem sig := 19
abbrev cc2_sem8_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem4_1 : DmaSem sig := 26
abbrev cc3_sem5_0 : DmaSem sig := 27
abbrev cc3_sem5_1 : DmaSem sig := 28
abbrev cc4_sem0_0 : DmaSem sig := 29
abbrev cc4_sem1_0 : DmaSem sig := 30
abbrev cc4_sem2_0 : DmaSem sig := 31
abbrev cc5_sem0_0 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem4_1 : DmaSem sig := 37
abbrev cc5_sem5_0 : DmaSem sig := 38
abbrev cc5_sem6_0 : DmaSem sig := 39
abbrev cc5_sem7_0 : DmaSem sig := 40
abbrev cc5_sem8_0 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48
abbrev cc6_sem7_0 : DmaSem sig := 49
abbrev cc6_sem8_0 : DmaSem sig := 50
abbrev cc6_sem9_0 : DmaSem sig := 51
abbrev cc6_sem10_0 : DmaSem sig := 52
abbrev cc6_sem11_0 : DmaSem sig := 53
abbrev cc6_sem12_0 : DmaSem sig := 54
abbrev cc6_sem13_0 : DmaSem sig := 55
abbrev cc6_sem14_0 : DmaSem sig := 56
abbrev cc6_sem15_0 : DmaSem sig := 57
abbrev cc6_sem16_0 : DmaSem sig := 58
abbrev cc6_sem17_0 : DmaSem sig := 59
abbrev cc6_sem18_0 : DmaSem sig := 60

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

@[reducible] def k1_t1_loop : Scf.Loop 32 :=
  let c0_i32 : BitVec 32 := 0#32
  let c125_i32 : BitVec 32 := 125#32
  let v10 : BitVec 32 := Scalar.addi c0_i32 c125_i32
  let c1_i32 : BitVec 32 := 1#32
  ⟨c0_i32, v10, c1_i32⟩
def k1_off1 (k1_t1 : Fin k1_t1_loop.trips) : Fin 2 → Nat :=
  let c0_18 : Index := 0#32
  let c0_i32 : BitVec 32 := 0#32
  let c1_i32 : BitVec 32 := 1#32
  let arg3 : BitVec 32 := Scf.iv c0_i32 c1_i32 k1_t1
  let c128_i32 : BitVec 32 := 128#32
  let v26 : BitVec 32 := Scalar.muli arg3 c128_i32
  let v27 : Index := Scalar.indexCast v26
  ![0, v27.toNat]
@[reducible] def k1_t2_loop : Scf.Loop 32 :=
  let c0_i32_11 : BitVec 32 := 0#32
  let c65_i32 : BitVec 32 := 65#32
  let v15 : BitVec 32 := Scalar.addi c0_i32_11 c65_i32
  let c1_i32_12 : BitVec 32 := 1#32
  ⟨c0_i32_11, v15, c1_i32_12⟩
abbrev stage1_0 : Fin 1 → Memref sig .tc .vmem S64x16000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S64x640 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := .none

@[reducible] def k4_t1_loop : Scf.Loop 32 :=
  let c0_i32 : BitVec 32 := 0#32
  let c125_i32 : BitVec 32 := 125#32
  let v10 : BitVec 32 := Scalar.addi c0_i32 c125_i32
  let c1_i32 : BitVec 32 := 1#32
  ⟨c0_i32, v10, c1_i32⟩
def k4_off1 (k4_t1 : Fin k4_t1_loop.trips) : Fin 2 → Nat :=
  let c0_18 : Index := 0#32
  let c0_i32 : BitVec 32 := 0#32
  let c1_i32 : BitVec 32 := 1#32
  let arg3 : BitVec 32 := Scf.iv c0_i32 c1_i32 k4_t1
  let c128_i32 : BitVec 32 := 128#32
  let v26 : BitVec 32 := Scalar.muli arg3 c128_i32
  let v27 : Index := Scalar.indexCast v26
  ![0, v27.toNat]
@[reducible] def k4_t2_loop : Scf.Loop 32 :=
  let c0_i32_11 : BitVec 32 := 0#32
  let c65_i32 : BitVec 32 := 65#32
  let v15 : BitVec 32 := Scalar.addi c0_i32_11 c65_i32
  let c1_i32_12 : BitVec 32 := 1#32
  ⟨c0_i32_11, v15, c1_i32_12⟩
abbrev stage4_0 : Fin 1 → Memref sig .tc .vmem S64x16000 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S64x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S64x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev grid6 : Pipeline.Grid := .none

abbrev stage6_0 : Fin 1 → Memref sig .tc .vmem S64x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S64x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S64x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev stage6_5 : Fin 1 → Memref sig .tc .vmem S64x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))

abbrev stage6_6 : Fin 1 → Memref sig .tc .vmem S128x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))

abbrev stage6_8 : Fin 1 → Memref sig .tc .vmem S128x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))

abbrev stage6_9 : Fin 1 → Memref sig .tc .vmem S1x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))

abbrev stage6_10 : Fin 1 → Memref sig .tc .vmem S128x256 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))

abbrev stage6_11 : Fin 1 → Memref sig .tc .vmem S1x128 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))

abbrev stage6_12 : Fin 1 → Memref sig .tc .vmem S128x128 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))

abbrev stage6_13 : Fin 1 → Memref sig .tc .vmem S1x128 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))

abbrev stage6_14 : Fin 1 → Memref sig .tc .vmem S128x256 .f32 := fun | 0 => Memref.whole cc6_stg14_0 | ⟨_ + 1, h⟩ => absurd h (Nat.not_lt.2 (Nat.le_add_left _ _))
abbrev sem6_14 : Fin 1 → DmaSem sig := fun | 0 => cc6_sem14_0 | ⟨_ + 1, h⟩ => absurd h (Nat.not_lt.2 (Nat.le_add_left _ _))

abbrev stage6_15 : Fin 1 → Memref sig .tc .vmem S1x128 .f32 := fun | 0 => Memref.whole cc6_stg15_0 | ⟨_ + 1, h⟩ => absurd h (Nat.not_lt.2 (Nat.le_add_left _ _))
abbrev sem6_15 : Fin 1 → DmaSem sig := fun | 0 => cc6_sem15_0 | ⟨_ + 1, h⟩ => absurd h (Nat.not_lt.2 (Nat.le_add_left _ _))

abbrev stage6_16 : Fin 1 → Memref sig .tc .vmem S128x128 .f32 := fun | 0 => Memref.whole cc6_stg16_0 | ⟨_ + 1, h⟩ => absurd h (Nat.not_lt.2 (Nat.le_add_left _ _))
abbrev sem6_16 : Fin 1 → DmaSem sig := fun | 0 => cc6_sem16_0 | ⟨_ + 1, h⟩ => absurd h (Nat.not_lt.2 (Nat.le_add_left _ _))

abbrev stage6_17 : Fin 1 → Memref sig .tc .vmem S1x128 .f32 := fun | 0 => Memref.whole cc6_stg17_0 | ⟨_ + 1, h⟩ => absurd h (Nat.not_lt.2 (Nat.le_add_left _ _))
abbrev sem6_17 : Fin 1 → DmaSem sig := fun | 0 => cc6_sem17_0 | ⟨_ + 1, h⟩ => absurd h (Nat.not_lt.2 (Nat.le_add_left _ _))

abbrev stage6_18 : Fin 1 → Memref sig .tc .vmem S1x64 .f32 := fun | 0 => Memref.whole cc6_stg18_0 | ⟨_ + 1, h⟩ => absurd h (Nat.not_lt.2 (Nat.le_add_left _ _))
abbrev sem6_18 : Fin 1 → DmaSem sig := fun | 0 => cc6_sem18_0 | ⟨_ + 1, h⟩ => absurd h (Nat.not_lt.2 (Nat.le_add_left _ _))
-- ==== KernelIdeal.lean ====
variable {F : FTy → Type} [FloatOps F] [Named F]
def κ : String → Option EReal := fun
  | "eps_sq" => some ((5316911940649 / 5316911983139663491615228241121378304 : ℝ) : EReal)
  | "isq" => some ((1048576 / 11863283 : ℝ) : EReal)
  | "neg" => some ⊥
  | _ => none
-- ==== ReferenceIdeal.lean ====
abbrev S64x128 : Shape := ⟨2, ![64, 128]⟩
abbrev S100000x128 : Shape := ⟨2, ![100000, 128]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S128x100000 : Shape := ⟨2, ![128, 100000]⟩
abbrev S64x100000 : Shape := ⟨2, ![64, 100000]⟩
abbrev S64x64 : Shape := ⟨2, ![64, 64]⟩
abbrev S_ : Shape := ⟨0, ![]⟩
abbrev S64 : Shape := ⟨1, ![64]⟩
abbrev S64x1 : Shape := ⟨2, ![64, 1]⟩
abbrev S64x64x1 : Shape := ⟨3, ![64, 64, 1]⟩
abbrev S1 : Shape := ⟨1, ![1]⟩
abbrev S1x1x1 : Shape := ⟨3, ![1, 1, 1]⟩
abbrev S64x64x128 : Shape := ⟨3, ![64, 64, 128]⟩
abbrev S64x256 : Shape := ⟨2, ![64, 256]⟩
abbrev S256x128 : Shape := ⟨2, ![256, 128]⟩

abbrev nBuf : Space → Nat
  | .hbm => 201
  | .vmem => 0
  | .smem => 0
  | _ => 0

abbrev hbmTy0_0 (i : Nat) : BufTy := match i % 128 with
  | 0 => ⟨S64x128, .f32⟩
  | 1 => ⟨S64x128, .f32⟩
  | 2 => ⟨S100000x128, .f32⟩
  | 3 => ⟨S100000x128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x256, .f32⟩
  | 17 => ⟨S128, .f32⟩
  | 18 => ⟨S128x256, .f32⟩
  | 19 => ⟨S128, .f32⟩
  | 20 => ⟨S128x128, .f32⟩
  | 21 => ⟨S128, .f32⟩
  | 22 => ⟨S128x128, .f32⟩
  | 23 => ⟨S128, .f32⟩
  | 24 => ⟨S128x128, .f32⟩
  | 25 => ⟨S100000x128, .f32⟩
  | 26 => ⟨S1x128, .f32⟩
  | 27 => ⟨S100000x128, .f32⟩
  | 28 => ⟨S100000x128, .f32⟩
  | 29 => ⟨S128x128, .f32⟩
  | 30 => ⟨S100000x128, .f32⟩
  | 31 => ⟨S1x128, .f32⟩
  | 32 => ⟨S100000x128, .f32⟩
  | 33 => ⟨S100000x128, .f32⟩
  | 34 => ⟨S128x128, .f32⟩
  | 35 => ⟨S64x128, .f32⟩
  | 36 => ⟨S1x128, .f32⟩
  | 37 => ⟨S64x128, .f32⟩
  | 38 => ⟨S64x128, .f32⟩
  | 39 => ⟨S128x128, .f32⟩
  | 40 => ⟨S100000x128, .f32⟩
  | 41 => ⟨S1x128, .f32⟩
  | 42 => ⟨S100000x128, .f32⟩
  | 43 => ⟨S100000x128, .f32⟩
  | 44 => ⟨S128x100000, .f32⟩
  | 45 => ⟨S64x100000, .f32⟩
  | 46 => ⟨S64x64, .f32⟩
  | 47 => ⟨S64x64, .i32⟩
  | 48 => ⟨S_, .f32⟩
  | 49 => ⟨S64x64, .f32⟩
  | 50 => ⟨S64x64, .f32⟩
  | 51 => ⟨S_, .f32⟩
  | 52 => ⟨S64, .f32⟩
  | 53 => ⟨S_, .f32⟩
  | 54 => ⟨S64, .f32⟩
  | 55 => ⟨S64, .f32⟩
  | 56 => ⟨S64x1, .f32⟩
  | 57 => ⟨S64x64, .f32⟩
  | 58 => ⟨S64x64, .f32⟩
  | 59 => ⟨S64x64, .f32⟩
  | 60 => ⟨S_, .f32⟩
  | 61 => ⟨S64, .f32⟩
  | 62 => ⟨S64x1, .f32⟩
  | 63 => ⟨S64x64, .f32⟩
  | 64 => ⟨S64x64, .f32⟩
  | 65 => ⟨S_, .i32⟩
  | 66 => ⟨S64x64, .i32⟩
  | 67 => ⟨S64x64, .i1⟩
  | 68 => ⟨S_, .i32⟩
  | 69 => ⟨S64x64, .i32⟩
  | 70 => ⟨S64x64, .i32⟩
  | 71 => ⟨S64x64, .i32⟩
  | 72 => ⟨S64x64x1, .i32⟩
  | 73 => ⟨S1, .i32⟩
  | 74 => ⟨S_, .i32⟩
  | 75 => ⟨S64x64x1, .i32⟩
  | 76 => ⟨S64x64x1, .i1⟩
  | 77 => ⟨S1x1x1, .i32⟩
  | 78 => ⟨S64x64x1, .i32⟩
  | 79 => ⟨S64x64x1, .i1⟩
  | 80 => ⟨S64x64x1, .i1⟩
  | 81 => ⟨S_, .i1⟩
  | 82 => ⟨S64x64, .i1⟩
  | 83 => ⟨S64x64x128, .f32⟩
  | 84 => ⟨S64x64x128, .i1⟩
  | 85 => ⟨S_, .f32⟩
  | 86 => ⟨S64x64x128, .f32⟩
  | 87 => ⟨S64x64x128, .f32⟩
  | 88 => ⟨S64x128, .f32⟩
  | 89 => ⟨S128x128, .f32⟩
  | 90 => ⟨S64x128, .f32⟩
  | 91 => ⟨S1x128, .f32⟩
  | 92 => ⟨S64x128, .f32⟩
  | 93 => ⟨S64x128, .f32⟩
  | 94 => ⟨S128x128, .f32⟩
  | 95 => ⟨S100000x128, .f32⟩
  | 96 => ⟨S1x128, .f32⟩
  | 97 => ⟨S100000x128, .f32⟩
  | 98 => ⟨S100000x128, .f32⟩
  | 99 => ⟨S128x100000, .f32⟩
  | 100 => ⟨S64x100000, .f32⟩
  | 101 => ⟨S64x64, .f32⟩
  | 102 => ⟨S64x64, .i32⟩
  | 103 => ⟨S_, .f32⟩
  | 104 => ⟨S64x64, .f32⟩
  | 105 => ⟨S64x64, .f32⟩
  | 106 => ⟨S_, .f32⟩
  | 107 => ⟨S64, .f32⟩
  | 108 => ⟨S_, .f32⟩
  | 109 => ⟨S64, .f32⟩
  | 110 => ⟨S64, .f32⟩
  | 111 => ⟨S64x1, .f32⟩
  | 112 => ⟨S64x64, .f32⟩
  | 113 => ⟨S64x64, .f32⟩
  | 114 => ⟨S64x64, .f32⟩
  | 115 => ⟨S_, .f32⟩
  | 116 => ⟨S64, .f32⟩
  | 117 => ⟨S64x1, .f32⟩
  | 118 => ⟨S64x64, .f32⟩
  | 119 => ⟨S64x64, .f32⟩
  | 120 => ⟨S_, .i32⟩
  | 121 => ⟨S64x64, .i32⟩
  | 122 => ⟨S64x64, .i1⟩
  | 123 => ⟨S_, .i32⟩
  | 124 => ⟨S64x64, .i32⟩
  | 125 => ⟨S64x64, .i32⟩
  | 126 => ⟨S64x64, .i32⟩
  | 127 => ⟨S64x64x1, .i32⟩
  | _ => ⟨S64x128, .f32⟩

abbrev hbmTy0_1 (i : Nat) : BufTy := match i % 128 with
  | 0 => ⟨S1, .i32⟩
  | 1 => ⟨S_, .i32⟩
  | 2 => ⟨S64x64x1, .i32⟩
  | 3 => ⟨S64x64x1, .i1⟩
  | 4 => ⟨S1x1x1, .i32⟩
  | 5 => ⟨S64x64x1, .i32⟩
  | 6 => ⟨S64x64x1, .i1⟩
  | 7 => ⟨S64x64x1, .i1⟩
  | 8 => ⟨S_, .i1⟩
  | 9 => ⟨S64x64, .i1⟩
  | 10 => ⟨S64x64x128, .f32⟩
  | 11 => ⟨S64x64x128, .i1⟩
  | 12 => ⟨S_, .f32⟩
  | 13 => ⟨S64x64x128, .f32⟩
  | 14 => ⟨S64x64x128, .f32⟩
  | 15 => ⟨S64x128, .f32⟩
  | 16 => ⟨S64x256, .f32⟩
  | 17 => ⟨S64x256, .f32⟩
  | 18 => ⟨S256x128, .f32⟩
  | 19 => ⟨S64x128, .f32⟩
  | 20 => ⟨S1x128, .f32⟩
  | 21 => ⟨S64x128, .f32⟩
  | 22 => ⟨S64x128, .f32⟩
  | 23 => ⟨S_, .f32⟩
  | 24 => ⟨S64x128, .f32⟩
  | 25 => ⟨S64x128, .f32⟩
  | 26 => ⟨S128x128, .f32⟩
  | 27 => ⟨S64x128, .f32⟩
  | 28 => ⟨S1x128, .f32⟩
  | 29 => ⟨S64x128, .f32⟩
  | 30 => ⟨S64x128, .f32⟩
  | 31 => ⟨S256x128, .f32⟩
  | 32 => ⟨S64x128, .f32⟩
  | 33 => ⟨S1x128, .f32⟩
  | 34 => ⟨S64x128, .f32⟩
  | 35 => ⟨S64x128, .f32⟩
  | 36 => ⟨S_, .f32⟩
  | 37 => ⟨S64x128, .f32⟩
  | 38 => ⟨S64x128, .f32⟩
  | 39 => ⟨S128x128, .f32⟩
  | 40 => ⟨S64x128, .f32⟩
  | 41 => ⟨S1x128, .f32⟩
  | 42 => ⟨S64x128, .f32⟩
  | 43 => ⟨S64x128, .f32⟩
  | 44 => ⟨S64x128, .f32⟩
  | 45 => ⟨S_, .f32⟩
  | 46 => ⟨S64, .f32⟩
  | 47 => ⟨S64x1, .f32⟩
  | 48 => ⟨S64x1, .f32⟩
  | 49 => ⟨S_, .f32⟩
  | 50 => ⟨S64x1, .f32⟩
  | 51 => ⟨S64x1, .f32⟩
  | 52 => ⟨S64x128, .f32⟩
  | 53 => ⟨S64x128, .f32⟩
  | 54 => ⟨S64x128, .f32⟩
  | 55 => ⟨S_, .f32⟩
  | 56 => ⟨S64, .f32⟩
  | 57 => ⟨S64x1, .f32⟩
  | 58 => ⟨S64x1, .f32⟩
  | 59 => ⟨S_, .f32⟩
  | 60 => ⟨S64x1, .f32⟩
  | 61 => ⟨S64x1, .f32⟩
  | 62 => ⟨S64x128, .f32⟩
  | 63 => ⟨S64x128, .f32⟩
  | 64 => ⟨S64x128, .f32⟩
  | 65 => ⟨S_, .f32⟩
  | 66 => ⟨S64, .f32⟩
  | 67 => ⟨S_, .f32⟩
  | 68 => ⟨S64, .f32⟩
  | 69 => ⟨S64, .f32⟩
  | 70 => ⟨S_, .f32⟩
  | 71 => ⟨S64, .f32⟩
  | 72 => ⟨S64, .f32⟩
  | _ => ⟨S64x128, .f32⟩

abbrev hbmTy (i : Nat) : BufTy := match i / 128 with
  | 0 => hbmTy0_0 i
  | 1 => hbmTy0_1 i
  | _ => ⟨S64x128, .f32⟩

abbrev bufTy : (tb : Table) → Fin (tcTables nBuf tb) → BufTy
  | .hbm, ⟨i, _⟩ => hbmTy i
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_values : Ref sig .tc := ⟨.hbm, 46, rfl⟩
abbrev main_indices : Ref sig .tc := ⟨.hbm, 47, rfl⟩
abbrev main_cst : Ref sig .tc := ⟨.hbm, 48, rfl⟩
abbrev main_v22 : Ref sig .tc := ⟨.hbm, 49, rfl⟩
abbrev main_v23 : Ref sig .tc := ⟨.hbm, 50, rfl⟩
abbrev main_cst_0 : Ref sig .tc := ⟨.hbm, 51, rfl⟩
abbrev main_v24 : Ref sig .tc := ⟨.hbm, 52, rfl⟩
abbrev main_cst_1 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_2 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call0_c : Ref sig .tc := ⟨.hbm, 65, rfl⟩
abbrev main_call0_v0 : Ref sig .tc := ⟨.hbm, 66, rfl⟩
abbrev main_call0_v1 : Ref sig .tc := ⟨.hbm, 67, rfl⟩
abbrev main_call0_c_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_c_1 : Ref sig .tc := ⟨.hbm, 73, rfl⟩
abbrev main_call0_c_2 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_c_3 : Ref sig .tc := ⟨.hbm, 81, rfl⟩
abbrev main_call0_v12 : Ref sig .tc := ⟨.hbm, 82, rfl⟩
abbrev main_call0_v13 : Ref sig .tc := ⟨.hbm, 83, rfl⟩
abbrev main_call0_v14 : Ref sig .tc := ⟨.hbm, 84, rfl⟩
abbrev main_call0_cst : Ref sig .tc := ⟨.hbm, 85, rfl⟩
abbrev main_call0_v15 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_values_3 : Ref sig .tc := ⟨.hbm, 101, rfl⟩
abbrev main_indices_4 : Ref sig .tc := ⟨.hbm, 102, rfl⟩
abbrev main_cst_5 : Ref sig .tc := ⟨.hbm, 103, rfl⟩
abbrev main_v49 : Ref sig .tc := ⟨.hbm, 104, rfl⟩
abbrev main_v50 : Ref sig .tc := ⟨.hbm, 105, rfl⟩
abbrev main_cst_6 : Ref sig .tc := ⟨.hbm, 106, rfl⟩
abbrev main_v51 : Ref sig .tc := ⟨.hbm, 107, rfl⟩
abbrev main_cst_7 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_cst_8 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_call1_c : Ref sig .tc := ⟨.hbm, 120, rfl⟩
abbrev main_call1_v0 : Ref sig .tc := ⟨.hbm, 121, rfl⟩
abbrev main_call1_v1 : Ref sig .tc := ⟨.hbm, 122, rfl⟩
abbrev main_call1_c_0 : Ref sig .tc := ⟨.hbm, 123, rfl⟩
abbrev main_call1_v2 : Ref sig .tc := ⟨.hbm, 124, rfl⟩
abbrev main_call1_v3 : Ref sig .tc := ⟨.hbm, 125, rfl⟩
abbrev main_call1_v4 : Ref sig .tc := ⟨.hbm, 126, rfl⟩
abbrev main_call1_v5 : Ref sig .tc := ⟨.hbm, 127, rfl⟩
abbrev main_call1_c_1 : Ref sig .tc := ⟨.hbm, 128, rfl⟩
abbrev main_call1_c_2 : Ref sig .tc := ⟨.hbm, 129, rfl⟩
abbrev main_call1_v6 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_call1_v11 : Ref sig .tc := ⟨.hbm, 135, rfl⟩
abbrev main_call1_c_3 : Ref sig .tc := ⟨.hbm, 136, rfl⟩
abbrev main_call1_v12 : Ref sig .tc := ⟨.hbm, 137, rfl⟩
abbrev main_call1_v13 : Ref sig .tc := ⟨.hbm, 138, rfl⟩
abbrev main_call1_v14 : Ref sig .tc := ⟨.hbm, 139, rfl⟩
abbrev main_call1_cst : Ref sig .tc := ⟨.hbm, 140, rfl⟩
abbrev main_call1_v15 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_call2_cst : Ref sig .tc := ⟨.hbm, 151, rfl⟩
abbrev main_call2_v0 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_call3_cst : Ref sig .tc := ⟨.hbm, 164, rfl⟩
abbrev main_call3_v0 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_call4_v0 : Ref sig .tc := ⟨.hbm, 172, rfl⟩
abbrev main_call4_cst : Ref sig .tc := ⟨.hbm, 173, rfl⟩
abbrev main_call4_v1 : Ref sig .tc := ⟨.hbm, 174, rfl⟩
abbrev main_call4_v2 : Ref sig .tc := ⟨.hbm, 175, rfl⟩
abbrev main_v88 : Ref sig .tc := ⟨.hbm, 176, rfl⟩
abbrev main_cst_9 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_call5_v0 : Ref sig .tc := ⟨.hbm, 182, rfl⟩
abbrev main_call5_cst : Ref sig .tc := ⟨.hbm, 183, rfl⟩
abbrev main_call5_v1 : Ref sig .tc := ⟨.hbm, 184, rfl⟩
abbrev main_call5_v2 : Ref sig .tc := ⟨.hbm, 185, rfl⟩
abbrev main_v93 : Ref sig .tc := ⟨.hbm, 186, rfl⟩
abbrev main_cst_10 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_cst_11 : Ref sig .tc := ⟨.hbm, 193, rfl⟩
abbrev main_v99 : Ref sig .tc := ⟨.hbm, 194, rfl⟩
abbrev main_cst_12 : Ref sig .tc := ⟨.hbm, 195, rfl⟩
abbrev main_v100 : Ref sig .tc := ⟨.hbm, 196, rfl⟩
abbrev main_v101 : Ref sig .tc := ⟨.hbm, 197, rfl⟩
abbrev main_cst_13 : Ref sig .tc := ⟨.hbm, 198, rfl⟩
abbrev main_v102 : Ref sig .tc := ⟨.hbm, 199, rfl⟩
abbrev main_v103 : Ref sig .tc := ⟨.hbm, 200, rfl⟩

abbrev nD : Nat := 1
abbrev τ : Topo := Topo.v7x

variable {F : FTy → Type} [FloatOps F]
-- ==== Proof.Frames.lean ====
/- The programs run to a quiet end and keep their arguments, and the named constants stand for what is printed. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_separated

@[expose] public section

noncomputable section

namespace Cert.Proof

open Idealize.ShloMosaic Idealize.SL.Sem

/-- The kernel as printed runs to a quiet end and keeps its arguments. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference, which has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the precondition, which the runs do not need. -/
theorem frame_ideal_pre : Cert.quiescent_KernelIdeal_pre_separated := fun m ρ _ => Cert.KernelIdeal.Gen.frame m ρ

/-- The same of the reference. -/
theorem frame_reference_pre : Cert.quiescent_ReferenceIdeal_pre_separated := fun m ρ _ => frame_reference m ρ trivial

/-- Each of the three named constants is the word the kernel prints, and has its named value over the extended reals. -/
theorem constants_kept : Cert.preserves_Kernel_KernelIdeal :=
  ⟨IdealRules.named_const.statement Cert.KernelIdeal.κ "neg" .f32 0xFF61B1E6#32 ⊥ rfl,
    IdealRules.named_const.statement Cert.KernelIdeal.κ "isq" .f32 0x3DB504F3#32 ((1048576 / 11863283 : ℝ) : EReal) rfl,
    IdealRules.named_const.statement Cert.KernelIdeal.κ "eps_sq" .f32 0x179ABE15#32 ((5316911940649 / 5316911983139663491615228241121378304 : ℝ) : EReal) rfl⟩

end Cert.Proof

end
-- ==== Proof.Bank.lean ====
/- Registers kept sorted by insertion, and repeated removal of a greatest entry: which of their values reach a bound,
   by counting how many of the numbers put in reach it. -/
module

public import Idealize.ShloMosaic.PureOps

@[expose] public section

namespace Cert.Topk

variable {α : Type} [LinearOrder α] [OrderBot α]

/-- What register `r` is handed when `y` is inserted from the top: the least of `y` and the registers above. -/
def spill (g : ℕ → α) (y : α) : ℕ → α
  | 0 => y
  | r + 1 => min (g r) (spill g y r)

/-- The registers after `y` is inserted: each keeps the greater of what it held and what it is handed. -/
def push (g : ℕ → α) (y : α) (r : ℕ) : α := max (g r) (spill g y r)

/-- The registers, empty at first, after the first `s` numbers of `x` have been inserted. -/
def bank (x : ℕ → α) : ℕ → ℕ → α
  | 0, _ => ⊥
  | s + 1, r => push (bank x s) (x s) r

/-- How many of the first `s` numbers of `x` reach `θ`. -/
def reach (x : ℕ → α) (θ : α) (s : ℕ) : ℕ := ((Finset.range s).filter fun k => θ ≤ x k).card

theorem le_spill (g : ℕ → α) (y θ : α) (r : ℕ) : θ ≤ spill g y r ↔ θ ≤ y ∧ ∀ i < r, θ ≤ g i := by
  induction r with
  | zero => simp [spill]
  | succ r ih =>
    rw [spill, le_min_iff, ih]
    constructor
    · rintro ⟨h, hy, hi⟩
      refine ⟨hy, fun i hir => ?_⟩
      rcases Nat.lt_succ_iff_lt_or_eq.mp hir with h' | rfl
      · exact hi i h'
      · exact h
    · rintro ⟨hy, hi⟩
      exact ⟨hi r (Nat.lt_succ_self r), hy, fun i hir => hi i (Nat.lt_succ_of_lt hir)⟩

theorem reach_succ (x : ℕ → α) (θ : α) (s : ℕ) : reach x θ (s + 1) = reach x θ s + if θ ≤ x s then 1 else 0 := by
  unfold reach
  rw [Finset.range_add_one, Finset.filter_insert]
  split
  · rw [Finset.card_insert_of_notMem (by simp)]
  · simp

/-- Register `r` reaches a bound exactly when more than `r` of the inserted numbers do. -/
theorem le_bank (x : ℕ → α) {θ : α} (hθ : θ ≠ ⊥) (s r : ℕ) : θ ≤ bank x s r ↔ r < reach x θ s := by
  induction s generalizing r with
  | zero => simp [bank, reach, hθ]
  | succ s ih =>
    have h : (∀ i < r, θ ≤ bank x s i) ↔ r ≤ reach x θ s := by
      constructor
      · intro h
        rcases r with _ | r
        · exact Nat.zero_le _
        · exact (ih r).mp (h r (Nat.lt_succ_self r))
      · exact fun h i hi => (ih i).mpr (lt_of_lt_of_le hi h)
    rw [bank, push, le_max_iff, le_spill, ih, h, reach_succ]
    by_cases hy : θ ≤ x s
    · rw [if_pos hy]; constructor
      · rintro (h | ⟨-, h⟩) <;> omega
      · exact fun h => Or.inr ⟨hy, by omega⟩
    · rw [if_neg hy, Nat.add_zero]; exact ⟨fun h => h.elim id fun h => absurd h.1 hy, Or.inl⟩

/-- Of the first `R` registers, as many reach a bound as inserted numbers do, up to `R`. -/
theorem card_bank (x : ℕ → α) {θ : α} (hθ : θ ≠ ⊥) (s R : ℕ) :
    ((Finset.range R).filter fun r => θ ≤ bank x s r).card = min R (reach x θ s) := by
  have : ((Finset.range R).filter fun r => θ ≤ bank x s r) = Finset.range (min R (reach x θ s)) := by
    ext r; simp [le_bank x hθ]
  rw [this, Finset.card_range]

variable {n : ℕ}

/-- `g` is `f` with one of its greatest entries removed. -/
def Drops (f g : Fin n → α) : Prop := ∃ p, (∀ i, f i ≤ f p) ∧ ∀ i, g i = if i = p then ⊥ else f i

theorem card_drops {f g : Fin n → α} (h : Drops f g) {θ : α} (hθ : θ ≠ ⊥) :
    (Finset.univ.filter fun i => θ ≤ g i).card = (Finset.univ.filter fun i => θ ≤ f i).card - 1 := by
  obtain ⟨p, hp, hg⟩ := h
  have hset : (Finset.univ.filter fun i => θ ≤ g i) = (Finset.univ.filter fun i => θ ≤ f i).erase p := by
    ext i
    simp only [Finset.mem_filter, Finset.mem_univ, true_and, Finset.mem_erase, hg]
    by_cases hi : i = p <;> simp [hi, hθ]
  rw [hset]
  by_cases hpf : θ ≤ f p
  · rw [Finset.card_erase_of_mem (by simp [hpf])]
  · have : (Finset.univ.filter fun i => θ ≤ f i) = ∅ := by
      ext i; simp only [Finset.mem_filter, Finset.mem_univ, true_and, Finset.notMem_empty, iff_false]
      exact fun h => hpf (h.trans (hp i))
    simp [this]

/-- After `r` removals of a greatest entry, the greatest entry left reaches a bound exactly when more than `r` entries
    did at the start. -/
theorem le_removed (f : ℕ → Fin n → α) (hf : ∀ r, Drops (f r) (f (r + 1))) {θ : α} (hθ : θ ≠ ⊥) (r : ℕ) :
    (∃ i, θ ≤ f r i) ↔ r < (Finset.univ.filter fun i => θ ≤ f 0 i).card := by
  have hc : ∀ r, (Finset.univ.filter fun i => θ ≤ f r i).card = (Finset.univ.filter fun i => θ ≤ f 0 i).card - r := by
    intro r
    induction r with
    | zero => simp
    | succ r ih => rw [card_drops (hf r) hθ, ih, Nat.sub_sub]
  have h0 : (∃ i, θ ≤ f r i) ↔ 0 < (Finset.univ.filter fun i => θ ≤ f r i).card := by
    rw [Finset.card_pos]
    exact ⟨fun ⟨i, hi⟩ => ⟨i, by simp [hi]⟩, fun ⟨i, hi⟩ => ⟨i, by simpa using hi⟩⟩
  rw [h0, hc]
  omega

end Cert.Topk

end
-- ==== Proof.Cand.lean ====
/- What a candidate block holds: five registers per lane, kept by insertion over the 32 slices of a block of scores. -/
module

public import proofs.«01_k».proof.Proof.Gen.KernelIdeal.Frame.Region0
public import proofs.«01_k».proof.Proof.Gen.KernelIdeal.Frame.Region3
public import proofs.«01_k».proof.Proof.Bank

@[expose] public section

set_option maxRecDepth 16384

noncomputable section

namespace Cert.KernelIdeal.Value

open Idealize.ShloMosaic Idealize.ShloMosaic.TcCoe Idealize.ShloMosaic.Tactic
open Cert.KernelIdeal Cert.KernelIdeal.Gen

section Blocks
variable {F : FTy → Type} [FloatOps F] [Named F]

/-- `spill` on whole blocks. -/
def vspill (g : ℕ → FVec F S64x128 .f32) (y : FVec F S64x128 .f32) (r : ℕ) : FVec F S64x128 .f32 :=
  Nat.rec y (fun r p => minimumf (g r) p) r

/-- `bank` on whole blocks. -/
def vbank (y : ℕ → FVec F S64x128 .f32) (s : ℕ) : ℕ → FVec F S64x128 .f32 :=
  Nat.rec (fun _ => broadcast S64x128 (Named.named κ "neg" 0xFF61B1E6#32)) (fun s g r => maximumf (g r) (vspill g (y s) r)) s

theorem slices_at (s : ℕ) (h : s < 31) : S64x4000.Slices ![0, 128 * s] S64x128 :=
  ⟨rfl, fun a => by fin_cases a <;> simp <;> omega⟩

/-- Slice `s` of a block of scores: 128 columns, the last slice filled up. -/
def slab (x : FVec F S64x4000 .f32) (s : ℕ) : FVec F S64x128 .f32 :=
  if h : s < 31 then extractStridedSlice S64x128 ![0, 128 * s] x (slices_at s h)
  else concatenate S64x128 1 [⟨S64x32, extractStridedSlice S64x32 ![0, 3968] x slices_S64x4000_o0_3968_S64x32⟩,
    ⟨S64x96, broadcast S64x96 (Named.named κ "neg" 0xFF61B1E6#32)⟩] concatenates_S64x32_S64x96_S64x128_d1

/-- The candidate block from the registers. -/
def candOf (x : FVec F S64x4000 .f32) : FVec F S64x640 .f32 :=
  k0_pay1 (vbank (slab x) 32 0) (vbank (slab x) 32 1) (vbank (slab x) 32 2) (vbank (slab x) 32 3) (vbank (slab x) 32 4)

theorem out0_eq (x0 : Vec F S64x128 .f32) (x1 : Vec F S128x128 .f32) (x2 : Vec F S1x128 .f32) (x3 : Vec F S128x128 .f32)
    (x4 : Vec F S4000x128 .f32) : out0_5 x0 x1 x2 x3 x4 = View.canon [⟨r0_4, candOf (k0_pay269 x0 x1 x2 x3 x4)⟩] := by
  sl_kernel_rfl

theorem out3_eq (x0 : Vec F S64x128 .f32) (x1 : Vec F S128x128 .f32) (x2 : Vec F S1x128 .f32) (x3 : Vec F S128x128 .f32)
    (x4 : Vec F S4000x128 .f32) : out3_5 x0 x1 x2 x3 x4 = out0_5 x0 x1 x2 x3 x4 := by
  sl_kernel_rfl

end Blocks

end Cert.KernelIdeal.Value

end
-- ==== Proof.CandVal.lean ====
/- What a candidate block holds at an index, over the extended reals. -/
module

public import proofs.«01_k».proof.Proof.Cand
public import Idealize.ShloMosaic.Lib.Pointwise

@[expose] public section

set_option maxRecDepth 16384

noncomputable section

namespace Cert.KernelIdeal.Value

open Idealize.ShloMosaic Idealize.ShloMosaic.TcCoe Idealize.ShloMosaic.Tactic
open Cert.KernelIdeal Cert.KernelIdeal.Gen

/-- The fill value is the least extended real. -/
theorem neg_eq : Named.named (F := Ideal) κ "neg" (φ := .f32) 0xFF61B1E6#32 = (⊥ : EReal) :=
  IdealRules.named_const.ideal_named_scalar _ _ _ _ rfl

/-- What lane `l` sees of a block of scores in slice `s`. -/
def seen (x : FVec Ideal S64x4000 .f32) (i : Fin 64) (l : Fin 128) (s : ℕ) : EReal :=
  if h : 128 * s + l.val < 4000 then x (ix2 i ⟨128 * s + l.val, h⟩) else ⊥

theorem slab_apply (x : FVec Ideal S64x4000 .f32) (s : ℕ) (hs : s < 32) (i : Fin 64) (l : Fin 128) :
    slab x s (ix2 i l) = seen x i l s := by
  have hl := l.isLt
  unfold slab seen
  by_cases h : s < 31
  · rw [dif_pos h, dif_pos (by omega)]
    pointwise
    try (congr 1; funext a; fin_cases a <;> simp <;> omega)
  · obtain rfl : s = 31 := by omega
    rw [dif_neg h]
    pointwise
    by_cases hl' : l.val < 32
    · rw [dif_pos hl', dif_pos (by omega)]
    · rw [dif_neg hl', dif_neg (by omega)]; exact neg_eq

theorem vspill_apply (g : ℕ → FVec Ideal S64x128 .f32) (y : FVec Ideal S64x128 .f32) (r : ℕ) (j) :
    (vspill g y r j : EReal) = Topk.spill (fun r => (g r j : EReal)) (y j) r := by
  induction r with
  | zero => rfl
  | succ r ih => exact congrArg (min (g r j : EReal)) ih

theorem vbank_apply (y : ℕ → FVec Ideal S64x128 .f32) (s r : ℕ) (j) :
    (vbank y s r j : EReal) = Topk.bank (fun s => (y s j : EReal)) s r := by
  induction s generalizing r with
  | zero => exact neg_eq
  | succ s ih =>
    show max (vbank y s r j : EReal) (vspill (vbank y s) (y s) r j) = _
    rw [vspill_apply, ih]
    simp only [Topk.bank, Topk.push]
    congr 2
    funext r
    exact ih r

theorem bank_congr {f g : ℕ → EReal} (s r : ℕ) (h : ∀ k < s, f k = g k) : Topk.bank f s r = Topk.bank g s r := by
  induction s generalizing r with
  | zero => rfl
  | succ s ih =>
    have e : Topk.bank f s = Topk.bank g s := funext fun r => ih r fun k hk => h k (by omega)
    simp only [Topk.bank, e, h s (by omega)]

theorem reg_apply (x : FVec Ideal S64x4000 .f32) (i : Fin 64) (l : Fin 128) (r : ℕ) :
    (vbank (slab x) 32 r (ix2 i l) : EReal) = Topk.bank (seen x i l) 32 r :=
  (vbank_apply _ _ _ _).trans (bank_congr _ _ fun k hk => slab_apply x k hk i l)

/-- Five registers laid side by side: column `q` is entry `q % 128` of register `q / 128`. -/
theorem ladder {α : Type} (B : Fin 128 → ℕ → α) (q : Fin 640) :
    (if h : q.val < 128 then B ⟨q.val, h⟩ 0 else
      if h : q.val - 128 < 128 then B ⟨q.val - 128, h⟩ 1 else
      if h : q.val - 128 - 128 < 128 then B ⟨q.val - 128 - 128, h⟩ 2 else
      if h : q.val - 128 - 128 - 128 < 128 then B ⟨q.val - 128 - 128 - 128, h⟩ 3 else
      B ⟨q.val - 128 - 128 - 128 - 128, by omega⟩ 4) = B ⟨q.val % 128, Nat.mod_lt _ (by norm_num)⟩ (q.val / 128) := by
  have hq := q.isLt
  have key : ∀ (r n : ℕ) (h : n < 128) (hr : n + 128 * r = q.val),
      B ⟨n, h⟩ r = B ⟨q.val % 128, Nat.mod_lt _ (by norm_num)⟩ (q.val / 128) := by
    intro r n h hr
    have e1 : n = q.val % 128 := by omega
    have e2 : q.val / 128 = r := by omega
    subst e1; rw [e2]
  split_ifs with h0 h1 h2 h3
  · exact key 0 _ _ (by omega)
  · exact key 1 _ _ (by omega)
  · exact key 2 _ _ (by omega)
  · exact key 3 _ _ (by omega)
  · exact key 4 _ _ (by omega)

/-- Column `q` of a candidate block: register `q / 128` of lane `q % 128`. -/
theorem cand_apply (x : FVec Ideal S64x4000 .f32) (i : Fin 64) (q : Fin 640) :
    (candOf x (ix2 i q) : EReal) = Topk.bank (seen x i ⟨q.val % 128, Nat.mod_lt _ (by norm_num)⟩) 32 (q.val / 128) := by
  rw [← reg_apply]
  unfold candOf k0_pay1
  pointwise
  exact ladder (fun l r => (vbank (slab x) 32 r (ix2 i l) : EReal)) q

/-- The score of query row `i` against table row `j`: the query projected twice, then met with the row. -/
def score {n : ℕ} (q : FVec Ideal S64x128 .f32) (wq : FVec Ideal S128x128 .f32) (bq : FVec Ideal S1x128 .f32) (wk : FVec Ideal S128x128 .f32)
    (tab : FVec Ideal ⟨2, ![n, 128]⟩ .f32) (i : Fin 64) (j : Fin n) : EReal :=
  ∑ h : Fin 128, (∑ h' : Fin 128, ((∑ k : Fin 128, (q (ix2 i k) : EReal) * wq (ix2 h' k)) + bq (ix2 0 h')) * wk (ix2 h' h)) * tab (ix2 j h)

theorem pay2_apply (q : FVec Ideal S64x128 .f32) (wq : FVec Ideal S128x128 .f32) (bq : FVec Ideal S1x128 .f32) (wk : FVec Ideal S128x128 .f32)
    (tab : FVec Ideal S4000x128 .f32) (i : Fin 64) (y : Fin 4000) :
    k0_pay2 (F := Ideal) q wq bq wk tab (ix2 i y) = score (n := 4000) q wq bq wk tab i y := by
  unfold k0_pay2 score
  pointwise

end Cert.KernelIdeal.Value
-- ==== Proof.Thresh.lean ====
/- What the two threshold launches compute, as functions of the candidates they are handed: ten registers per lane over
   the 125 slices of candidates, then a greatest entry removed 65 times. -/
module

public import proofs.«01_k».proof.Proof.CandVal
public import proofs.«01_k».proof.Proof.Gen.KernelIdeal.Frame.Region1
public import proofs.«01_k».proof.Proof.Gen.KernelIdeal.Frame.Region4
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Idealize.ShloMosaic.Pipeline (Dat Cfg Window)

/-- What holds before the first trip and is kept by every trip holds of a loop's result. -/
theorem fold_keeps {σ : Type} (n : ℕ) (g : Fin n → σ → σ) (a : σ) (P : ℕ → σ → Prop) (h0 : P 0 a)
    (hs : ∀ (k : Fin n) s, P k.val s → P (k.val + 1) (g k s)) : P n (Scf.fold g a) := by
  rw [Scf.fold_eq]
  induction n with
  | zero => exact h0
  | succ n ih =>
    rw [List.finRange_succ_last, List.foldl_append, List.foldl_map]
    exact hs (Fin.last n) _ (ih (fun k => g k.castSucc) (fun k s h => hs k.castSucc s h))

/-- A loop that steps a state and keeps what it reads of it at trips `0`, `a` and `b`. -/
theorem fold_picks {σ τ : Type} (n a b : ℕ) (hn : 0 < n) (ha : a < n) (hb : b < n) (step : σ → σ) (v : σ → τ) (m : σ) (z : τ)
    (g : Fin n → σ × τ × τ × τ → σ × τ × τ × τ)
    (hg : ∀ k s, g k s = (step s.1, (if k.val = 0 then v s.1 else s.2.1), (if k.val = a then v s.1 else s.2.2.1), if k.val = b then v s.1 else s.2.2.2)) :
    (Scf.fold g (m, z, z, z)).2 = (v m, v (Nat.rec m (fun _ => step) a), v (Nat.rec m (fun _ => step) b)) := by
  have key := fold_keeps n g (m, z, z, z)
    (fun k s => s.1 = Nat.rec m (fun _ => step) k ∧ (0 < k → s.2.1 = v m) ∧ (a < k → s.2.2.1 = v (Nat.rec m (fun _ => step) a))
      ∧ (b < k → s.2.2.2 = v (Nat.rec m (fun _ => step) b)))
    ⟨rfl, fun h => absurd h (Nat.not_lt_zero _), fun h => absurd h (Nat.not_lt_zero _), fun h => absurd h (Nat.not_lt_zero _)⟩ ?_
  · obtain ⟨-, h1, h2, h3⟩ := key
    exact Prod.ext (h1 hn) (Prod.ext (h2 ha) (h3 hb))
  · rintro k s ⟨h0, h1, h2, h3⟩
    rw [hg]
    refine ⟨congrArg step h0, fun _ => ?_, fun hk => ?_, fun hk => ?_⟩
    · dsimp only
      split
      · rename_i h; rw [h0, h]; rfl
      · rename_i h; exact h1 (Nat.pos_of_ne_zero h)
    · dsimp only
      split
      · rename_i h; rw [h0, h]
      · rename_i h; exact h2 (by omega)
    · dsimp only
      split
      · rename_i h; rw [h0, h]
      · rename_i h; exact h3 (by omega)

section Blocks
variable {F : FTy → Type} [FloatOps F] [Named F]

/-- Slice `k` of the candidates. -/
def cslab (x : Vec F S64x16000 .f32) (k : ℕ) : FVec F S64x128 .f32 :=
  if h : k < k1_t1_loop.trips then k1_pay11 (View.ld x (Rect.unit (s := S64x16000) (k1_off1 ⟨k, h⟩) S64x128.size (k1_off1_inb ⟨k, h⟩)))
  else broadcast S64x128 (Named.named κ "neg" 0xFF61B1E6#32)

/-- The ten registers after `k` slices. -/
def regs (y : ℕ → FVec F S64x128 .f32) (k : ℕ) : FVec F S64x128 .f32 × FVec F S64x128 .f32 × FVec F S64x128 .f32 × FVec F S64x128 .f32
    × FVec F S64x128 .f32 × FVec F S64x128 .f32 × FVec F S64x128 .f32 × FVec F S64x128 .f32 × FVec F S64x128 .f32 × FVec F S64x128 .f32 :=
  (vbank y k 0, vbank y k 1, vbank y k 2, vbank y k 3, vbank y k 4, vbank y k 5, vbank y k 6, vbank y k 7, vbank y k 8, vbank y k 9)

/-- The ten registers side by side. -/
def slots (y : ℕ → FVec F S64x128 .f32) (k : ℕ) : FVec F S64x1280 .f32 :=
  k1_pay30 (vbank y k 0) (vbank y k 1) (vbank y k 2) (vbank y k 3) (vbank y k 4) (vbank y k 5) (vbank y k 6) (vbank y k 7) (vbank y k 8) (vbank y k 9)

/-- The slots after `r` removals. -/
def removed (m : FVec F S64x1280 .f32) (r : ℕ) : FVec F S64x1280 .f32 := Nat.rec m (fun _ m => k1_pay36 m) r

theorem trips1 : k1_t1_loop.trips = 125 := by decide +kernel
theorem trips2 : k1_t2_loop.trips = 65 := by decide +kernel

/-- A loop that keeps the greatest slot met at trips 0, 63 and 64, removing it at every trip. -/
theorem fold_kept (m : FVec F S64x1280 .f32) (g : Fin k1_t2_loop.trips → FVec F S64x1280 .f32 × FVec F S64x1 .f32 × FVec F S64x1 .f32 × FVec F S64x1 .f32 → FVec F S64x1280 .f32 × FVec F S64x1 .f32 × FVec F S64x1 .f32 × FVec F S64x1 .f32)
    (hg : ∀ k s, g k s = (k1_pay36 s.1, k1_pay33 k s.1 s.2.1, k1_pay34 k s.1 s.2.2.1, k1_pay35 k s.1 s.2.2.2)) (z : FVec F S64x1 .f32) :
    (Scf.fold g (m, z, z, z)).2 = (k1_pay32 (removed m 0), k1_pay32 (removed m 63), k1_pay32 (removed m 64)) := by
  refine fold_picks k1_t2_loop.trips 63 64 (trips2 ▸ by decide) (trips2 ▸ by decide) (trips2 ▸ by decide) k1_pay36 k1_pay32 m z g fun k s => ?_
  rw [hg]
  have hk : k.val < 65 := trips2 ▸ k.isLt
  have sel : ∀ (n : BitVec 32) (n' : ℕ) (a b : FVec F S64x1 .f32) (h : n = BitVec.ofNat 32 n') (hn' : n' < 65),
      Scalar.select (Scalar.cmpi .eq (Scf.iv 0#32 1#32 k) n) a b = if k.val = n' then a else b := by
    intro n n' a b h hn'
    subst h
    generalize k.val = k at *
    have key2 : ∀ k n : Fin 65, Scalar.cmpi .eq (Scf.iv 0#32 1#32 k) (BitVec.ofNat 32 n.val) = if k.val = n.val then 1#1 else 0#1 := by decide +kernel
    refine (congrArg (fun b' => Scalar.select b' a b) (key2 ⟨k, hk⟩ ⟨n', hn'⟩)).trans ?_
    dsimp only
    split <;> rfl
  exact congrArg₂ Prod.mk rfl (congrArg₂ Prod.mk (sel 0#32 0 _ _ rfl (by decide)) (congrArg₂ Prod.mk (sel 63#32 63 _ _ rfl (by decide)) (sel 64#32 64 _ _ rfl (by decide))))

/-- The first result from the candidates: half the sum of the 64th and 65th greatest slots, in every column. -/
def mid (x : Vec F S64x16000 .f32) : FVec F S64x128 .f32 :=
  k1_pay37 (k1_pay32 (removed (slots (cslab x) k1_t1_loop.trips) 63)) (k1_pay32 (removed (slots (cslab x) k1_t1_loop.trips) 64))
/-- The second result from the candidates: the greatest slot, in every column. -/
def top (x : Vec F S64x16000 .f32) : FVec F S64x128 .f32 :=
  k1_pay38 (k1_pay32 (removed (slots (cslab x) k1_t1_loop.trips) 0))

variable (V : (c : Dev nD) → (b : Ref sig .tc) → Buf (Elt F) ((c : Thread nD τ).loc b))

theorem regs1 (𝒱 : Variants) (c : Dev nD) (bd : Option 𝒱.V) (arg0 : Memref sig .tc .vmem S64x16000 .f32) (harg0 : arg0.IsWhole) (arg1 : Memref sig .tc .vmem S64x128 .f32) (harg1 : arg1.IsWhole) (arg2 : Memref sig .tc .vmem S64x128 .f32) (harg2 : arg2.IsWhole)
    (x : Vec F S64x16000 .f32) (k : ℕ) (hk : k ≤ k1_t1_loop.trips) :
    st_k1_t1 (F := F) 𝒱 c bd arg0 harg0 arg1 harg1 arg2 harg2 (harg0.unread x)
      (k1_pay1, k1_pay2, k1_pay3, k1_pay4, k1_pay5, k1_pay6, k1_pay7, k1_pay8, k1_pay9, k1_pay10) k = regs (cslab x) k := by
  induction k with
  | zero => rfl
  | succ k ih =>
    refine (st_k1_t1_succ 𝒱 c bd arg0 harg0 arg1 harg1 arg2 harg2 _ _ ⟨k, hk⟩).trans ?_
    rw [ih (Nat.le_of_succ_le hk)]
    have e : cslab x k = k1_pay11 (View.readAt (Elt F) arg0.view (Rect.unit (s := S64x16000) (k1_off1 ⟨k, hk⟩) S64x128.size (k1_off1_inb ⟨k, hk⟩)).toLoadRect (harg0.unread x)) := by
      unfold cslab
      rw [dif_pos (show k < k1_t1_loop.trips from hk), View.readAt_eq_ld, harg0.read_unread]
    unfold tripR_k1_t1
    with_unfolding_all delta trip_k1_t1
    dsimp only
    unfold k1_pay12 k1_pay14 k1_pay16 k1_pay18 k1_pay20 k1_pay22 k1_pay24 k1_pay26 k1_pay28 k1_pay29 k1_pay27 k1_pay25 k1_pay23 k1_pay21 k1_pay19 k1_pay17 k1_pay15 k1_pay13
    rw [← e]
    rfl

/-- What the body stores in its two results. -/
theorem stores1 (c : Dev nD) (arg0 : Memref sig .tc .vmem S64x16000 .f32) (harg0 : arg0.IsWhole) (arg1 : Memref sig .tc .vmem S64x128 .f32) (harg1 : arg1.IsWhole) (arg2 : Memref sig .tc .vmem S64x128 .f32) (harg2 : arg2.IsWhole)
    (x : Vec F S64x16000 .f32) :
    (kernelRun1_A c arg0 harg0 arg1 harg1 arg2 harg2 x).1 = [⟨Rect.unit (s := S64x128) ![0, 0] S64x128.size inb_S64x128_S64x128_0_0, mid x⟩]
      ∧ (kernelRun1_A c arg0 harg0 arg1 harg1 arg2 harg2 x).2.1 = [⟨Rect.unit (s := S64x128) ![0, 0] S64x128.size inb_S64x128_S64x128_0_0, top x⟩] := by
  have h := fold_kept (slots (cslab x) k1_t1_loop.trips)
    (fun k s => (k1_pay36 s.1, k1_pay33 k s.1 s.2.1, k1_pay34 k s.1 s.2.2.1, k1_pay35 k s.1 s.2.2.2)) (fun _ _ => rfl) k1_pay31
  have h1 := congrArg (fun p => p.1) h
  have h2 := congrArg (fun p => p.2.1) h
  have h3 := congrArg (fun p => p.2.2) h
  dsimp only at h1 h2 h3
  unfold kernelRun1_A
  dsimp only
  unfold kernelRun1_A.sl.r
  rw [regs1 _ _ _ _ _ _ _ _ _ _ _ (le_refl _)]
  unfold mid top
  rw [← h1, ← h2, ← h3]
  exact ⟨by sl_kernel_rfl, by sl_kernel_rfl⟩

/-- The second threshold launch runs the same body. -/
theorem out4_1 (c : Dev nD) (arg0 : Memref sig .tc .vmem S64x16000 .f32) (harg0 : arg0.IsWhole) (arg1 : Memref sig .tc .vmem S64x128 .f32) (harg1 : arg1.IsWhole) (arg2 : Memref sig .tc .vmem S64x128 .f32) (harg2 : arg2.IsWhole)
    (x0 : Vec F S64x16000 .f32) : (kernelRun4_A c arg0 harg0 arg1 harg1 arg2 harg2 x0).1 = (kernelRun1_A c arg0 harg0 arg1 harg1 arg2 harg2 x0).1 := by
  sl_kernel_rfl

theorem out4_2 (c : Dev nD) (arg0 : Memref sig .tc .vmem S64x16000 .f32) (harg0 : arg0.IsWhole) (arg1 : Memref sig .tc .vmem S64x128 .f32) (harg1 : arg1.IsWhole) (arg2 : Memref sig .tc .vmem S64x128 .f32) (harg2 : arg2.IsWhole)
    (x0 : Vec F S64x16000 .f32) : (kernelRun4_A c arg0 harg0 arg1 harg1 arg2 harg2 x0).2.1 = (kernelRun1_A c arg0 harg0 arg1 harg1 arg2 harg2 x0).2.1 := by
  sl_kernel_rfl

theorem stored1_1 (x : Vec F S64x128 .f32) :
    VO1_1.read (Elt F) (VO1_1.writes (Elt F) VO1_1.junk [⟨Rect.unit (s := S64x128) ![0, 0] S64x128.size inb_S64x128_S64x128_0_0, x⟩]) = x := by
  frame_out

theorem stored1_2 (x : Vec F S64x128 .f32) :
    VO1_2.read (Elt F) (VO1_2.writes (Elt F) VO1_2.junk [⟨Rect.unit (s := S64x128) ![0, 0] S64x128.size inb_S64x128_S64x128_0_0, x⟩]) = x := by
  frame_out

theorem stored4_1 (x : Vec F S64x128 .f32) :
    VO4_1.read (Elt F) (VO4_1.writes (Elt F) VO4_1.junk [⟨Rect.unit (s := S64x128) ![0, 0] S64x128.size inb_S64x128_S64x128_0_0, x⟩]) = x := by
  frame_out

theorem stored4_2 (x : Vec F S64x128 .f32) :
    VO4_2.read (Elt F) (VO4_2.writes (Elt F) VO4_2.junk [⟨Rect.unit (s := S64x128) ![0, 0] S64x128.size inb_S64x128_S64x128_0_0, x⟩]) = x := by
  frame_out

theorem left1_1 (c : Dev nD) (arg0 : Memref sig .tc .vmem S64x16000 .f32) (harg0 : arg0.IsWhole) (arg1 : Memref sig .tc .vmem S64x128 .f32) (harg1 : arg1.IsWhole) (arg2 : Memref sig .tc .vmem S64x128 .f32) (harg2 : arg2.IsWhole)
    (x : Vec F S64x16000 .f32) :
    out1_A_1 c arg0 harg0 arg1 harg1 arg2 harg2 x = mid x := by
  unfold out1_A_1
  rw [(stores1 c arg0 harg0 arg1 harg1 arg2 harg2 x).1]
  exact stored1_1 _

theorem left1_2 (c : Dev nD) (arg0 : Memref sig .tc .vmem S64x16000 .f32) (harg0 : arg0.IsWhole) (arg1 : Memref sig .tc .vmem S64x128 .f32) (harg1 : arg1.IsWhole) (arg2 : Memref sig .tc .vmem S64x128 .f32) (harg2 : arg2.IsWhole)
    (x : Vec F S64x16000 .f32) :
    out1_A_2 c arg0 harg0 arg1 harg1 arg2 harg2 x = top x := by
  unfold out1_A_2
  rw [(stores1 c arg0 harg0 arg1 harg1 arg2 harg2 x).2]
  exact stored1_2 _

theorem outs1 (c : Dev nD) (t : Fin cfg1.N) : outsAt1 V c t = (mid (iblk1 V c 0 t), top (iblk1 V c 0 t)) := by
  unfold outsAt1
  rw [left1_1, left1_2]

theorem left4_1 (c : Dev nD) (arg0 : Memref sig .tc .vmem S64x16000 .f32) (harg0 : arg0.IsWhole) (arg1 : Memref sig .tc .vmem S64x128 .f32) (harg1 : arg1.IsWhole) (arg2 : Memref sig .tc .vmem S64x128 .f32) (harg2 : arg2.IsWhole)
    (x : Vec F S64x16000 .f32) :
    out4_A_1 c arg0 harg0 arg1 harg1 arg2 harg2 x = mid x := by
  unfold out4_A_1
  rw [out4_1]; rw [(stores1 c arg0 harg0 arg1 harg1 arg2 harg2 x).1]
  exact stored4_1 _

theorem left4_2 (c : Dev nD) (arg0 : Memref sig .tc .vmem S64x16000 .f32) (harg0 : arg0.IsWhole) (arg1 : Memref sig .tc .vmem S64x128 .f32) (harg1 : arg1.IsWhole) (arg2 : Memref sig .tc .vmem S64x128 .f32) (harg2 : arg2.IsWhole)
    (x : Vec F S64x16000 .f32) :
    out4_A_2 c arg0 harg0 arg1 harg1 arg2 harg2 x = top x := by
  unfold out4_A_2
  rw [out4_2]; rw [(stores1 c arg0 harg0 arg1 harg1 arg2 harg2 x).2]
  exact stored4_2 _

theorem outs4 (c : Dev nD) (t : Fin cfg4.N) : outsAt4 V c t = (mid (iblk4 V c 0 t), top (iblk4 V c 0 t)) := by
  unfold outsAt4
  rw [left4_1, left4_2]

theorem idx1 : ∀ t : Fin cfg1.N, win1_0.index t = ![0, 0] ∧ win1_1.index t = ![0, 0] ∧ win1_2.index t = ![0, 0] :=
  (by decide +kernel : ∀ t : Fin cfg1.N, _)

theorem block1 (c : Dev nD) (t : Fin cfg1.N) : iblk1 V c 0 t = V c main_v1 := by
  funext y
  blk_simp [iblk1]
  have : (win1_0.blk t).view.emb y = y := by
    blk_ext [idx1 t]
  rw [this]

theorem final1 (c : Dev nD) : (dat1 V c).arrAt 1 cfg1.N = mid (V c main_v1) ∧ (dat1 V c).arrAt 2 cfg1.N = top (V c main_v1) := by
  constructor
  · refine (dat1 V c).arrAt_eq_of_covers 1 _ (by decide +kernel) fun t _ y => ?_
    blk_simp
    rw [after1_1, outs1, block1]
    have : (win1_1.blk t).view.emb y = y := by
      blk_ext [idx1 t]
    rw [this]
  · refine (dat1 V c).arrAt_eq_of_covers 2 _ (by decide +kernel) fun t _ y => ?_
    blk_simp
    rw [after1_2, outs1, block1]
    have : (win1_2.blk t).view.emb y = y := by
      blk_ext [idx1 t]
    rw [this]

theorem idx4 : ∀ t : Fin cfg4.N, win4_0.index t = ![0, 0] ∧ win4_1.index t = ![0, 0] ∧ win4_2.index t = ![0, 0] :=
  (by decide +kernel : ∀ t : Fin cfg4.N, _)

theorem block4 (c : Dev nD) (t : Fin cfg4.N) : iblk4 V c 0 t = V c main_v6 := by
  funext y
  blk_simp [iblk4]
  have : (win4_0.blk t).view.emb y = y := by
    blk_ext [idx4 t]
  rw [this]

theorem final4 (c : Dev nD) : (dat4 V c).arrAt 1 cfg4.N = mid (V c main_v6) ∧ (dat4 V c).arrAt 2 cfg4.N = top (V c main_v6) := by
  constructor
  · refine (dat4 V c).arrAt_eq_of_covers 1 _ (by decide +kernel) fun t _ y => ?_
    blk_simp
    rw [after4_1, outs4, block4]
    have : (win4_1.blk t).view.emb y = y := by
      blk_ext [idx4 t]
    rw [this]
  · refine (dat4 V c).arrAt_eq_of_covers 2 _ (by decide +kernel) fun t _ y => ?_
    blk_simp
    rw [after4_2, outs4, block4]
    have : (win4_2.blk t).view.emb y = y := by
      blk_ext [idx4 t]
    rw [this]

end Blocks

end Cert.KernelIdeal.Value
-- ==== Proof.Lanes.lean ====
/- A row of 100000 scores cut into 25 blocks of 4000, each block into 32 slices of 128 lanes: five registers per lane of
   each block, ten registers per lane over the blocks' registers, and how many of the ten reach a bound. -/
module

public import proofs.«01_k».proof.Proof.Bank
public import Mathlib.Algebra.Order.BigOperators.Group.Finset
public import Mathlib.Algebra.BigOperators.Fin

@[expose] public section

namespace Cert.Topk

/-- A sum over `a * b` numbers, by tiles of `b`. -/
theorem sum_tiles (a b : ℕ) (f : ℕ → ℕ) : ∑ q ∈ Finset.range (a * b), f q = ∑ i ∈ Finset.range a, ∑ j ∈ Finset.range b, f (b * i + j) := by
  induction a with
  | zero => simp
  | succ a ih => rw [Nat.succ_mul, Finset.sum_range_add, ih, Finset.sum_range_succ, Nat.mul_comm a b]

variable {α : Type} [LinearOrder α] [OrderBot α]

/-- What lane `l` sees in slice `k` of block `c`. -/
def lane (s : Fin 100000 → α) (c l k : ℕ) : α :=
  if h : 128 * k + l < 4000 ∧ c < 25 then s ⟨4000 * c + (128 * k + l), by omega⟩ else ⊥

/-- Register `r` of lane `l` of block `c`, as the `5 * c + r`-th number lane `l` hands on. -/
def handed (s : Fin 100000 → α) (l n : ℕ) : α := bank (lane s (n / 5) l) 32 (n % 5)

/-- How many scores lane `l` of block `c` holds that reach `θ`. -/
def hits (s : Fin 100000 → α) (θ : α) (c l : ℕ) : ℕ := reach (lane s c l) θ 32

theorem reach_eq_sum (x : ℕ → α) (θ : α) (s : ℕ) : reach x θ s = ∑ k ∈ Finset.range s, if θ ≤ x k then 1 else 0 :=
  Finset.card_filter _ _

/-- What a lane hands on reaches a bound as often as its blocks hold it, five at most for each. -/
theorem reach_handed (s : Fin 100000 → α) {θ : α} (hθ : θ ≠ ⊥) (l : ℕ) :
    reach (handed s l) θ 125 = ∑ c ∈ Finset.range 25, min 5 (hits s θ c l) := by
  rw [reach_eq_sum, show (125 : ℕ) = 25 * 5 from rfl, sum_tiles]
  refine Finset.sum_congr rfl fun c _ => ?_
  rw [hits, ← card_bank _ hθ, Finset.card_filter]
  refine Finset.sum_congr rfl fun r hr => ?_
  have hr' := Finset.mem_range.mp hr
  rw [handed, show (5 * c + r) / 5 = c by omega, show (5 * c + r) % 5 = r by omega]

/-- How many of the 1280 slots reach a bound. -/
theorem card_slots (s : Fin 100000 → α) {θ : α} (hθ : θ ≠ ⊥) :
    (Finset.univ.filter fun q : Fin 1280 => θ ≤ bank (handed s (q.val % 128)) 125 (q.val / 128)).card
      = ∑ l ∈ Finset.range 128, min 10 (∑ c ∈ Finset.range 25, min 5 (hits s θ c l)) := by
  rw [Finset.card_filter, Fin.sum_univ_eq_sum_range (fun q => if θ ≤ bank (handed s (q % 128)) 125 (q / 128) then 1 else 0) 1280,
    show (1280 : ℕ) = 10 * 128 from rfl, sum_tiles, Finset.sum_comm]
  refine Finset.sum_congr rfl fun l hl => ?_
  have hl' := Finset.mem_range.mp hl
  rw [← reach_handed s hθ, ← card_bank _ hθ, Finset.card_filter]
  refine Finset.sum_congr rfl fun r _ => ?_
  rw [show (128 * r + l) % 128 = l by omega, show (128 * r + l) / 128 = r by omega]

/-- How many scores reach a bound: the lanes' counts together. -/
theorem card_scores (s : Fin 100000 → α) {θ : α} (hθ : θ ≠ ⊥) :
    (Finset.univ.filter fun j : Fin 100000 => θ ≤ s j).card = ∑ l ∈ Finset.range 128, ∑ c ∈ Finset.range 25, hits s θ c l := by
  obtain ⟨g, hg⟩ : ∃ g : ℕ → ℕ, ∀ n, g n = if h : n < 100000 then (if θ ≤ s ⟨n, h⟩ then 1 else 0) else 0 := ⟨_, fun _ => rfl⟩
  have e : ∀ j : Fin 100000, (if θ ≤ s j then 1 else 0) = g j.val := fun j => by rw [hg, dif_pos j.isLt]
  rw [Finset.card_filter, Finset.sum_congr rfl fun j _ => e j, Fin.sum_univ_eq_sum_range g 100000,
    show (100000 : ℕ) = 25 * 4000 from rfl, sum_tiles, Finset.sum_comm (s := Finset.range 128)]
  refine Finset.sum_congr rfl fun c hc => ?_
  have hc' := Finset.mem_range.mp hc
  have pad : ∑ y ∈ Finset.range (32 * 128), (fun y => if θ ≤ (if h : y < 4000 then s ⟨4000 * c + y, by omega⟩ else ⊥) then 1 else 0) y
      = ∑ l ∈ Finset.range 128, hits s θ c l := by
    rw [sum_tiles, Finset.sum_comm]
    refine Finset.sum_congr rfl fun l _ => ?_
    rw [hits, reach_eq_sum]
    refine Finset.sum_congr rfl fun k _ => ?_
    unfold lane
    by_cases h : 128 * k + l < 4000
    · rw [dif_pos h, dif_pos ⟨h, hc'⟩]
    · rw [dif_neg h, dif_neg fun h' => h h'.1]
  rw [← pad, show 32 * 128 = 4000 + 96 from rfl, Finset.sum_range_add]
  rw [Finset.sum_eq_zero (s := Finset.range 96) fun y _ => by
    rw [dif_neg (by omega), if_neg (by simpa using hθ)], add_zero]
  refine Finset.sum_congr rfl fun y hy => ?_
  have hy' := Finset.mem_range.mp hy
  rw [hg, dif_pos (show 4000 * c + y < 100000 by omega), dif_pos hy']

theorem hits_mono (s : Fin 100000 → α) {θ θ' : α} (h : θ' ≤ θ) (c l : ℕ) : hits s θ c l ≤ hits s θ' c l := by
  unfold hits reach
  exact Finset.card_le_card fun k hk => by
    rw [Finset.mem_filter] at hk ⊢
    exact ⟨hk.1, h.trans hk.2⟩

/-- When no lane of a block holds more than five scores reaching `τ`, and no lane more than ten, the slots have as many
    reaching any greater bound as the scores have. -/
theorem card_slots_eq (s : Fin 100000 → α) {τ θ : α} (hθ : θ ≠ ⊥) (h : τ ≤ θ) (h5 : ∀ c < 25, ∀ l < 128, hits s τ c l ≤ 5)
    (h10 : ∀ l < 128, ∑ c ∈ Finset.range 25, hits s τ c l ≤ 10) :
    (Finset.univ.filter fun q : Fin 1280 => θ ≤ bank (handed s (q.val % 128)) 125 (q.val / 128)).card
      = (Finset.univ.filter fun j : Fin 100000 => θ ≤ s j).card := by
  rw [card_slots s hθ, card_scores s hθ]
  refine Finset.sum_congr rfl fun l hl => ?_
  have e : ∑ c ∈ Finset.range 25, min 5 (hits s θ c l) = ∑ c ∈ Finset.range 25, hits s θ c l :=
    Finset.sum_congr rfl fun c hc => Nat.min_eq_right
      ((hits_mono s h c l).trans (h5 c (Finset.mem_range.mp hc) l (Finset.mem_range.mp hl)))
  rw [e]
  exact Nat.min_eq_right ((Finset.sum_le_sum fun c _ => hits_mono s h c l).trans (h10 l (Finset.mem_range.mp hl)))

/-- So up to the rank of `τ` among the scores, the slots' ranks are the scores' ranks. -/
theorem rank_slots (s : Fin 100000 → α) {τ : α} (hτ : τ ≠ ⊥) (R : ℕ) (hR : R < (Finset.univ.filter fun j : Fin 100000 => τ ≤ s j).card)
    (h5 : ∀ c < 25, ∀ l < 128, hits s τ c l ≤ 5) (h10 : ∀ l < 128, ∑ c ∈ Finset.range 25, hits s τ c l ≤ 10)
    {θ : α} (hθ : θ ≠ ⊥) (r : ℕ) (hr : r ≤ R) :
    r < (Finset.univ.filter fun q : Fin 1280 => θ ≤ bank (handed s (q.val % 128)) 125 (q.val / 128)).card
      ↔ r < (Finset.univ.filter fun j : Fin 100000 => θ ≤ s j).card := by
  rcases le_total τ θ with h | h
  · rw [card_slots_eq s hθ h h5 h10]
  · have h1 := card_slots_eq s hτ le_rfl h5 h10
    have mono : ∀ {n : ℕ} (f : Fin n → α), (Finset.univ.filter fun j => τ ≤ f j).card ≤ (Finset.univ.filter fun j => θ ≤ f j).card :=
      fun f => Finset.card_le_card fun k hk => by
        rw [Finset.mem_filter] at hk ⊢
        exact ⟨hk.1, h.trans hk.2⟩
    have h2 := mono s
    have h3 := mono fun q : Fin 1280 => bank (handed s (q.val % 128)) 125 (q.val / 128)
    constructor <;> intro _ <;> omega

end Cert.Topk
-- ==== Proof.CandArr.lean ====
/- What the two candidate launches leave: five registers per lane of every block of 4000 scores. -/
module

public import proofs.«01_k».proof.Proof.CandVal
public import proofs.«01_k».proof.Proof.Lanes
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Idealize.ShloMosaic.Pipeline (Dat Cfg Window)

/-- The candidates of every block: five registers per lane. -/
def cands (s : Fin 64 → Fin 100000 → EReal) : FVec Ideal S64x16000 .f32 := fun j =>
  Topk.bank (Topk.lane (s (j 0)) ((j 1).val / 640) ((j 1).val % 640 % 128)) 32 ((j 1).val % 640 / 128)

section
variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![0, 0] ∧ win0_3.index t = ![0, 0]
    ∧ win0_4.index t = ![t.val, 0] ∧ win0_5.index t = ![0, t.val] :=
  (by decide +kernel : ∀ t : Fin grid0.N, _)

theorem final0 (c : Dev nD) : (dat0 V c).arrAt 5 cfg0.N
    = cands (score (n := 100000) (V c main_arg1) (V c main_arg6) (V c main_v0) (V c main_arg8) (V c main_arg2)) := by
  refine (dat0 V c).arrAt_eq_of_covers 5 _ (by decide +kernel) fun t _ y => ?_
  blk_simp
  rw [after0_5, out0_eq]
  unfold k0_pay269
  frame_out
  obtain ⟨i, q, rfl⟩ : ∃ (i : Fin 64) (q : Fin 640), y = ix2 i q := ⟨y 0, y 1, by funext a; fin_cases a <;> rfl⟩
  refine (cand_apply _ i q).trans ?_
  have hq := q.isLt
  have ht : t.val < 25 := t.isLt
  have e0 : ((View.whole main_v1).slice (win0_5.rect t)).emb (ix2 i q) 0 = i := by
    apply Fin.ext; blk_simp [idx0 t]
  have e1 : ((((View.whole main_v1).slice (win0_5.rect t)).emb (ix2 i q)) 1 : ℕ) = 640 * t.val + q.val := by
    blk_simp [idx0 t]; omega
  unfold cands
  rw [e0, e1]
  rw [show (640 * t.val + q.val) / 640 = t.val by omega, show (640 * t.val + q.val) % 640 = q.val by omega]
  refine bank_congr _ _ fun k hk => ?_
  unfold seen Topk.lane
  by_cases h : 128 * k + q.val % 128 < 4000
  · rw [dif_pos h, dif_pos ⟨h, ht⟩]
    rw [pay2_apply]
    unfold score
    blk_point [iblk0, idx0 t]
  · rw [dif_neg h, dif_neg fun h' => h h'.1]

theorem idx3 : ∀ t : Fin cfg3.N, win3_0.index t = ![0, 0] ∧ win3_1.index t = ![0, 0] ∧ win3_2.index t = ![0, 0] ∧ win3_3.index t = ![0, 0]
    ∧ win3_4.index t = ![t.val, 0] ∧ win3_5.index t = ![0, t.val] :=
  (by decide +kernel : ∀ t : Fin grid3.N, _)

theorem final3 (c : Dev nD) : (dat3 V c).arrAt 5 cfg3.N
    = cands (score (n := 100000) (V c main_arg0) (V c main_arg4) (V c main_v5) (V c main_arg10) (V c main_arg3)) := by
  refine (dat3 V c).arrAt_eq_of_covers 5 _ (by decide +kernel) fun t _ y => ?_
  blk_simp
  rw [after3_5, out3_eq, out0_eq]
  unfold k0_pay269
  frame_out
  obtain ⟨i, q, rfl⟩ : ∃ (i : Fin 64) (q : Fin 640), y = ix2 i q := ⟨y 0, y 1, by funext a; fin_cases a <;> rfl⟩
  refine (cand_apply _ i q).trans ?_
  have hq := q.isLt
  have ht : t.val < 25 := t.isLt
  have e0 : ((View.whole main_v6).slice (win3_5.rect t)).emb (ix2 i q) 0 = i := by
    apply Fin.ext; blk_simp [idx3 t]
  have e1 : ((((View.whole main_v6).slice (win3_5.rect t)).emb (ix2 i q)) 1 : ℕ) = 640 * t.val + q.val := by
    blk_simp [idx3 t]; omega
  unfold cands
  rw [e0, e1]
  rw [show (640 * t.val + q.val) / 640 = t.val by omega, show (640 * t.val + q.val) % 640 = q.val by omega]
  refine bank_congr _ _ fun k hk => ?_
  unfold seen Topk.lane
  by_cases h : 128 * k + q.val % 128 < 4000
  · rw [dif_pos h, dif_pos ⟨h, ht⟩]
    rw [pay2_apply]
    unfold score
    blk_point [iblk3, idx3 t]
  · rw [dif_neg h, dif_neg fun h' => h h'.1]

end

end Cert.KernelIdeal.Value
-- ==== Proof.Rank.lean ====
/- The rows of greatest score in order, by the order of the scores alone. -/
module

public import Idealize.ShloMosaic.PureOps

@[expose] public section

namespace Cert.Topk

variable {α β : Type} [LinearOrder α] [LinearOrder β] {n K L : ℕ}

/-- `idx` lists rows of greatest score, greatest first: no row twice, and no row left out above one listed. -/
structure IsTop (s : Fin n → α) (idx : Fin K → Fin n) : Prop where
  inj : Function.Injective idx
  anti : ∀ r r', r ≤ r' → s (idx r') ≤ s (idx r)
  rest : ∀ j, (∀ r, idx r ≠ j) → ∀ r, s j ≤ s (idx r)

/-- Scores in the same order have the same lists. -/
theorem IsTop.of_iff {s : Fin n → α} {k : Fin n → β} {idx : Fin K → Fin n} (h : IsTop s idx)
    (hk : ∀ i j, k i ≤ k j ↔ s i ≤ s j) : IsTop k idx :=
  ⟨h.inj, fun r r' hr => (hk _ _).mpr (h.anti r r' hr), fun j hj r => (hk _ _).mpr (h.rest j hj r)⟩

/-- The score at place `r` reaches a bound exactly when more than `r` rows do. -/
theorem IsTop.le_iff {s : Fin n → α} {idx : Fin K → Fin n} (h : IsTop s idx) (r : Fin K) (θ : α) :
    θ ≤ s (idx r) ↔ r.val < (Finset.univ.filter fun j => θ ≤ s j).card := by
  constructor
  · intro hθ
    have hsub : (Finset.univ.filter fun r' : Fin K => r' ≤ r).image idx ⊆ Finset.univ.filter fun j => θ ≤ s j := by
      intro j hj
      obtain ⟨r', hr', rfl⟩ := Finset.mem_image.mp hj
      simp only [Finset.mem_filter, Finset.mem_univ, true_and] at hr' ⊢
      exact hθ.trans (h.anti r' r hr')
    have hcard := Finset.card_le_card hsub
    rw [Finset.card_image_of_injective _ h.inj] at hcard
    have : (Finset.univ.filter fun r' : Fin K => r' ≤ r) = Finset.Iic r := by ext; simp
    rw [this, Fin.card_Iic] at hcard
    omega
  · intro hlt
    by_contra hθ
    have hsub : (Finset.univ.filter fun j => θ ≤ s j) ⊆ (Finset.univ.filter fun r' : Fin K => r' < r).image idx := by
      intro j hj
      simp only [Finset.mem_filter, Finset.mem_univ, true_and] at hj
      by_cases hjr : ∃ r', idx r' = j
      · obtain ⟨r', rfl⟩ := hjr
        refine Finset.mem_image.mpr ⟨r', ?_, rfl⟩
        simp only [Finset.mem_filter, Finset.mem_univ, true_and]
        by_contra hr
        exact hθ (hj.trans (h.anti r r' (not_lt.mp hr)))
      · exact absurd (hj.trans (h.rest j (fun r' hr' => hjr ⟨r', hr'⟩) r)) hθ
    have hcard := Finset.card_le_card hsub
    rw [Finset.card_image_of_injective _ h.inj] at hcard
    have : (Finset.univ.filter fun r' : Fin K => r' < r) = Finset.Iio r := by ext; simp
    rw [this, Fin.card_Iio] at hcard
    omega

/-- Two lists give the same score at the same place. -/
theorem IsTop.score_eq {s : Fin n → α} {idx : Fin K → Fin n} {idx' : Fin L → Fin n} (h : IsTop s idx)
    (h' : IsTop s idx') (r : Fin K) (r' : Fin L) (hr : r.val = r'.val) : s (idx r) = s (idx' r') :=
  eq_of_forall_le_iff fun θ => by rw [h.le_iff, h'.le_iff, hr]

/-- A number reaching the bounds that place `r` reaches is the score there. -/
theorem IsTop.eq_score {s : Fin n → α} {idx : Fin K → Fin n} (h : IsTop s idx) (r : Fin K) (v : α)
    (hv : ∀ θ, θ ≤ v ↔ r.val < (Finset.univ.filter fun j => θ ≤ s j).card) : v = s (idx r) :=
  eq_of_forall_le_iff fun θ => by rw [h.le_iff, hv]

/-- A bound above the first score left out and not above the last one listed is reached by the listed rows alone. -/
theorem IsTop.cut {s : Fin n → α} {idx : Fin K → Fin n} {idx' : Fin (K + 1) → Fin n} (h : IsTop s idx)
    (h' : IsTop s idx') (t : α) (hlo : s (idx' (Fin.last K)) < t) (hhi : ∀ r, t ≤ s (idx r)) (j : Fin n) :
    t ≤ s j ↔ ∃ r, idx r = j := by
  constructor
  · intro hj
    by_contra hne
    have hne' : ∀ r, idx r ≠ j := fun r hr => hne ⟨r, hr⟩
    have hgt : s (idx' (Fin.last K)) < s j := lt_of_lt_of_le hlo hj
    refine absurd ((h'.le_iff (Fin.last K) (s j)).mpr ?_) (not_le.mpr hgt)
    have hsub : insert j (Finset.univ.image idx) ⊆ Finset.univ.filter fun i => s j ≤ s i := by
      intro i hi
      simp only [Finset.mem_insert, Finset.mem_image, Finset.mem_univ, true_and] at hi
      simp only [Finset.mem_filter, Finset.mem_univ, true_and]
      rcases hi with rfl | ⟨r, rfl⟩
      · exact le_rfl
      · exact h.rest j hne' r
    have hcard := Finset.card_le_card hsub
    rw [Finset.card_insert_of_notMem (by simpa using hne'), Finset.card_image_of_injective _ h.inj] at hcard
    simp only [Finset.card_univ, Fintype.card_fin] at hcard
    simp only [Fin.val_last]; omega
  · rintro ⟨r, rfl⟩; exact hhi r

end Cert.Topk

end
-- ==== Proof.ThreshVal.lean ====
/- What the threshold launches compute from the candidates of a table of scores, over the extended reals. -/
module

public import proofs.«01_k».proof.Proof.Thresh
public import proofs.«01_k».proof.Proof.CandArr
public import proofs.«01_k».proof.Proof.Rank

@[expose] public section

set_option maxRecDepth 16384

noncomputable section

namespace Cert.KernelIdeal.Value

open Idealize.ShloMosaic Idealize.ShloMosaic.TcCoe Idealize.ShloMosaic.Tactic
open Cert.KernelIdeal Cert.KernelIdeal.Gen

theorem off1 (k : ℕ) (h : k < k1_t1_loop.trips) : k1_off1 ⟨k, h⟩ = ![0, 128 * k] := by
  have key : ∀ n : Fin 125, k1_off1 ⟨n.val, trips1.symm ▸ n.isLt⟩ = ![0, 128 * n.val] := by decide +kernel
  exact key ⟨k, trips1 ▸ h⟩

theorem cslab_apply (x : Vec Ideal S64x16000 .f32) (k : ℕ) (h : k < 125) (i : Fin 64) (l : Fin 128) :
    cslab (F := Ideal) x k (ix2 i l) = x (ix2 i ⟨128 * k + l.val, by omega⟩) := by
  unfold cslab
  rw [dif_pos (trips1.symm ▸ h)]
  unfold k1_pay11
  pointwise
  have h0 : k1_off1 ⟨k, trips1.symm ▸ h⟩ 0 = 0 := by rw [off1]; rfl
  have h1 : k1_off1 ⟨k, trips1.symm ▸ h⟩ 1 = 128 * k := by rw [off1]; rfl
  congr 1
  funext a
  fin_cases a
  · apply Fin.ext; show k1_off1 ⟨k, _⟩ 0 + i.val = i.val; rw [h0]; omega
  · apply Fin.ext; show k1_off1 ⟨k, _⟩ 1 + l.val = 128 * k + l.val; rw [h1]

/-- Ten registers laid side by side: column `q` is entry `q % 128` of register `q / 128`. -/
theorem ladder10 {α : Type} (B : Fin 128 → ℕ → α) (q : Fin 1280) :
    (if h : q.val < 128 then B ⟨q.val, h⟩ 0 else
      if h : q.val - 128 < 128 then B ⟨q.val - 128, h⟩ 1 else
      if h : q.val - 128 - 128 < 128 then B ⟨q.val - 128 - 128, h⟩ 2 else
      if h : q.val - 128 - 128 - 128 < 128 then B ⟨q.val - 128 - 128 - 128, h⟩ 3 else
      if h : q.val - 128 - 128 - 128 - 128 < 128 then B ⟨q.val - 128 - 128 - 128 - 128, h⟩ 4 else
      if h : q.val - 128 - 128 - 128 - 128 - 128 < 128 then B ⟨q.val - 128 - 128 - 128 - 128 - 128, h⟩ 5 else
      if h : q.val - 128 - 128 - 128 - 128 - 128 - 128 < 128 then B ⟨q.val - 128 - 128 - 128 - 128 - 128 - 128, h⟩ 6 else
      if h : q.val - 128 - 128 - 128 - 128 - 128 - 128 - 128 < 128 then B ⟨q.val - 128 - 128 - 128 - 128 - 128 - 128 - 128, h⟩ 7 else
      if h : q.val - 128 - 128 - 128 - 128 - 128 - 128 - 128 - 128 < 128 then B ⟨q.val - 128 - 128 - 128 - 128 - 128 - 128 - 128 - 128, h⟩ 8 else
      B ⟨q.val - 128 - 128 - 128 - 128 - 128 - 128 - 128 - 128 - 128, by omega⟩ 9)
      = B ⟨q.val % 128, Nat.mod_lt _ (by norm_num)⟩ (q.val / 128) := by
  have hq := q.isLt
  have key : ∀ (r n : ℕ) (h : n < 128) (hr : n + 128 * r = q.val),
      B ⟨n, h⟩ r = B ⟨q.val % 128, Nat.mod_lt _ (by norm_num)⟩ (q.val / 128) := by
    intro r n h hr
    have e1 : n = q.val % 128 := by omega
    have e2 : q.val / 128 = r := by omega
    subst e1; rw [e2]
  split_ifs
  · exact key 0 _ _ (by omega)
  · exact key 1 _ _ (by omega)
  · exact key 2 _ _ (by omega)
  · exact key 3 _ _ (by omega)
  · exact key 4 _ _ (by omega)
  · exact key 5 _ _ (by omega)
  · exact key 6 _ _ (by omega)
  · exact key 7 _ _ (by omega)
  · exact key 8 _ _ (by omega)
  · exact key 9 _ _ (by omega)

/-- Slot `q` from the candidates: register `q / 128` of lane `q % 128`. -/
theorem slot_apply (y : ℕ → FVec Ideal S64x128 .f32) (k : ℕ) (i : Fin 64) (q : Fin 1280) :
    slots (F := Ideal) y k (ix2 i q) = Topk.bank (fun n => (y n (ix2 i ⟨q.val % 128, Nat.mod_lt _ (by norm_num)⟩) : EReal)) k (q.val / 128) := by
  rw [← vbank_apply]
  unfold slots k1_pay30
  pointwise
  exact ladder10 (fun l r => (vbank y k r (ix2 i l) : EReal)) q

/-- The lesser of two small words is the word of the lesser number. -/
theorem minsi_ofNat (a b : ℕ) (ha : a < 2 ^ 31) (hb : b < 2 ^ 31) :
    IntOp.minsi (BitVec.ofNat 32 a) (BitVec.ofNat 32 b) = BitVec.ofNat 32 (min a b) := by
  have key : (BitVec.ofNat 32 a).slt (BitVec.ofNat 32 b) = decide (a < b) := by
    have e : ∀ n : ℕ, n < 2 ^ 31 → (BitVec.ofNat 32 n).toInt = (n : ℤ) := by
      intro n hn
      rw [BitVec.toInt_eq_toNat_of_lt (by rw [BitVec.toNat_ofNat]; omega), BitVec.toNat_ofNat]
      omega
    rw [BitVec.slt, e a ha, e b hb]
    simp
  unfold IntOp.minsi
  rw [key]
  by_cases h : a < b
  · rw [if_pos (by simpa using h), Nat.min_eq_left h.le]
  · rw [if_neg (by simpa using h), Nat.min_eq_right (Nat.le_of_not_lt h)]

/-- The least of small words is the word of the least number. -/
theorem fold_minsi_ofNat {ι : Type} [DecidableEq ι] (S : Finset ι) (b : ℕ) (hb : b < 2 ^ 31) (f : ι → ℕ) (hf : ∀ x, f x < 2 ^ 31) :
    Finset.fold min b f S < 2 ^ 31 ∧ Finset.fold IntOp.minsi (BitVec.ofNat 32 b) (fun x => BitVec.ofNat 32 (f x)) S = BitVec.ofNat 32 (Finset.fold min b f S) := by
  induction S using Finset.induction with
  | empty => exact ⟨hb, rfl⟩
  | insert x S hx ih =>
    rw [Finset.fold_insert hx, Finset.fold_insert hx, ih.2, minsi_ofNat _ _ (hf x) ih.1]
    exact ⟨(min_le_left _ _).trans_lt (hf x), rfl⟩

/-- The word least among the places where a condition holds is the word of such a place. -/
theorem fold_minsi (p : Fin 1280 → Prop) [DecidablePred p] (h : ∃ x, p x) :
    ∃ x, p x ∧ Finset.fold IntOp.minsi 2147483647#32 (fun x : Fin 1280 => if p x then BitVec.ofNat 32 x.val else 1280#32) Finset.univ = BitVec.ofNat 32 x.val := by
  have e : (fun x : Fin 1280 => if p x then BitVec.ofNat 32 x.val else 1280#32) = fun x => BitVec.ofNat 32 (if p x then x.val else 1280) :=
    funext fun x => by split <;> rfl
  rw [e, (fold_minsi_ofNat Finset.univ 2147483647 (by norm_num) _ fun x => by split <;> omega).2]
  obtain ⟨x, hx⟩ := h
  set n := Finset.fold min 2147483647 (fun x : Fin 1280 => if p x then x.val else 1280) Finset.univ with hn
  have hle : n ≤ x.val := by
    rw [hn, Finset.fold_min_le]
    exact Or.inr ⟨x, Finset.mem_univ _, by rw [if_pos hx]⟩
  have h2 : n ≤ n := le_rfl
  conv at h2 => lhs; rw [hn]
  rw [Finset.fold_min_le] at h2
  rcases h2 with h2 | ⟨y, -, h2⟩
  · omega
  · have h3 : n ≤ if p y then y.val else 1280 := (Finset.le_fold_min n).mp le_rfl |>.2 y (Finset.mem_univ _)
    by_cases hy : p y
    · rw [if_pos hy] at h2 h3
      exact ⟨y, hy, by rw [le_antisymm h3 h2]⟩
    · rw [if_neg hy] at h2
      omega

/-- What the loop keeps at a trip reaches a bound exactly when some slot does. -/
theorem le_kept (m : FVec Ideal S64x1280 .f32) (i : Fin 64) (θ : EReal) (hθ : θ ≠ ⊥) :
    θ ≤ k1_pay32 (F := Ideal) m (ix2 i 0) ↔ ∃ q : Fin 1280, θ ≤ (m (ix2 i q) : EReal) := by
  have hb : Ideal.ofBits .f32 4286578688#32 = (⊥ : EReal) := by simp [Ideal.ofBits, Ideal.ieee]
  unfold k1_pay32
  pointwise
  rw [hb, Finset.le_fold_max]
  simp [hθ]

/-- What the loop keeps at a trip is one of the slots, and no slot is greater. -/
theorem kept_mem (m : FVec Ideal S64x1280 .f32) (i : Fin 64) :
    ∃ q : Fin 1280, (m (ix2 i q) : EReal) = k1_pay32 (F := Ideal) m (ix2 i 0) := by
  have hge : ∀ q : Fin 1280, (m (ix2 i q) : EReal) ≤ k1_pay32 (F := Ideal) m (ix2 i 0) := fun q => by
    by_cases h : (m (ix2 i q) : EReal) = ⊥
    · rw [h]; exact bot_le
    · exact (le_kept m i _ h).mpr ⟨q, le_rfl⟩
  by_cases h : (k1_pay32 (F := Ideal) m (ix2 i 0) : EReal) = ⊥
  · exact ⟨0, le_antisymm (hge 0) (h.le.trans bot_le)⟩
  · obtain ⟨q, hq⟩ := (le_kept m i _ h).mp le_rfl
    exact ⟨q, le_antisymm (hge q) hq⟩

/-- The step of the removing loop removes a greatest slot of every row. -/
theorem drops (m : FVec Ideal S64x1280 .f32) (i : Fin 64) :
    Topk.Drops (fun q : Fin 1280 => (m (ix2 i q) : EReal)) (fun q => k1_pay36 (F := Ideal) m (ix2 i q)) := by
  classical
  obtain ⟨p, hp, hfold⟩ := fold_minsi (fun q => (m (ix2 i q) : EReal) = k1_pay32 (F := Ideal) m (ix2 i 0)) (kept_mem m i)
  refine ⟨p, fun q => ?_, fun q => ?_⟩
  · dsimp only
    by_cases h : (m (ix2 i q) : EReal) = ⊥
    · rw [h]; exact bot_le
    · rw [hp]; exact (le_kept m i _ h).mpr ⟨q, le_rfl⟩
  · dsimp only
    unfold k1_pay36
    pointwise
    have hf2 := hfold
    rw [show (fun x : Fin 1280 => if (m (ix2 i x) : EReal) = k1_pay32 (F := Ideal) m (ix2 i 0) then BitVec.ofNat 32 x.val else 1280#32) = _ from rfl] at hf2
    erw [hf2]
    have hc : IntOp.cmpi .eq (BitVec.ofNat 32 q.val) (BitVec.ofNat 32 p.val) = if q = p then 1#1 else 0#1 := by
      have hq := q.isLt
      have hp := p.isLt
      by_cases h : q = p
      · subst h; simp [IntOp.cmpi]
      · have hne : BitVec.ofNat 32 q.val ≠ BitVec.ofNat 32 p.val := fun hh => h (Fin.ext (by
          have := congrArg BitVec.toNat hh
          rw [BitVec.toNat_ofNat, BitVec.toNat_ofNat] at this
          omega))
        rw [if_neg h]
        show BitVec.ofBool (BitVec.ofNat 32 q.val == BitVec.ofNat 32 p.val) = 0#1
        rw [beq_false_of_ne hne]; rfl
    rw [hc]
    by_cases h : q = p
    · rw [if_pos h, if_pos h]
      exact neg_eq
    · rw [if_neg h, if_neg h]
      rfl

/-- What the removing loop keeps at trip `r` reaches a bound exactly when more than `r` slots do. -/
theorem le_removed (m : FVec Ideal S64x1280 .f32) (i : Fin 64) (θ : EReal) (hθ : θ ≠ ⊥) (r : ℕ) :
    θ ≤ k1_pay32 (F := Ideal) (removed m r) (ix2 i 0) ↔ r < (Finset.univ.filter fun q : Fin 1280 => θ ≤ (m (ix2 i q) : EReal)).card := by
  rw [le_kept _ _ _ hθ]
  exact Topk.le_removed (fun r (q : Fin 1280) => (removed m r (ix2 i q) : EReal)) (fun r => drops (removed m r) i) hθ r

/-- The slots of a row of candidates are the banks of what the lanes hand on. -/
theorem slots_cands (s : Fin 64 → Fin 100000 → EReal) (i : Fin 64) (q : Fin 1280) :
    slots (cslab (F := Ideal) (cands s)) 125 (ix2 i q) = Topk.bank (Topk.handed (s i) (q.val % 128)) 125 (q.val / 128) := by
  rw [slot_apply]
  refine bank_congr _ _ fun n hn => ?_
  rw [cslab_apply _ n hn]
  have hl : q.val % 128 < 128 := Nat.mod_lt _ (by norm_num)
  show Topk.bank (Topk.lane (s i) ((128 * n + q.val % 128) / 640) ((128 * n + q.val % 128) % 640 % 128)) 32 ((128 * n + q.val % 128) % 640 / 128) = _
  rw [Topk.handed, show (128 * n + q.val % 128) / 640 = n / 5 by omega, show (128 * n + q.val % 128) % 640 % 128 = q.val % 128 by omega,
    show (128 * n + q.val % 128) % 640 / 128 = n % 5 by omega]

/-- What the removing loop keeps at trip `r`, up to the 65th, is the score of the `r`-th listed row, when no lane holds too many listed rows. -/
theorem kept_eq (s : Fin 64 → Fin 100000 → EReal) (i : Fin 64) (idx : Fin 65 → Fin 100000) (h : Topk.IsTop (s i) idx)
    (hbot : ∀ j, s i j ≠ ⊥)
    (h5 : ∀ c < 25, ∀ l < 128, Topk.hits (s i) (s i (idx 64)) c l ≤ 5)
    (h10 : ∀ l < 128, ∑ c ∈ Finset.range 25, Topk.hits (s i) (s i (idx 64)) c l ≤ 10) (r : Fin 65) :
    k1_pay32 (F := Ideal) (removed (slots (cslab (F := Ideal) (cands s)) 125) r.val) (ix2 i 0) = s i (idx r) := by
  refine h.eq_score r _ fun θ => ?_
  by_cases hθ : θ = ⊥
  · subst hθ
    refine ⟨fun _ => (h.le_iff r ⊥).mp bot_le, fun _ => bot_le⟩
  rw [le_removed _ _ _ hθ]
  have e : (Finset.univ.filter fun q : Fin 1280 => θ ≤ (slots (cslab (F := Ideal) (cands s)) 125 (ix2 i q) : EReal)) =
      Finset.univ.filter fun q : Fin 1280 => θ ≤ Topk.bank (Topk.handed (s i) (q.val % 128)) 125 (q.val / 128) :=
    Finset.filter_congr fun q _ => by rw [slots_cands]
  rw [e]
  exact Topk.rank_slots (s i) (hbot (idx 64)) 64 ((h.le_iff 64 _).mp le_rfl) h5 h10 hθ r.val (by omega)

end Cert.KernelIdeal.Value
-- ==== Proof.MidTop.lean ====
/- The two numbers the threshold launches hand on, for a table of scores whose lanes hold few listed rows. -/
module

public import proofs.«01_k».proof.Proof.ThreshVal

@[expose] public section

set_option maxRecDepth 16384

noncomputable section

namespace Cert.KernelIdeal.Value

open Idealize.ShloMosaic Idealize.ShloMosaic.TcCoe Idealize.ShloMosaic.Tactic
open Cert.KernelIdeal Cert.KernelIdeal.Gen

theorem pay37_apply (a b : FVec Ideal S64x1 .f32) (i : Fin 64) (q : Fin 128) :
    k1_pay37 (F := Ideal) a b (ix2 i q) = (a (ix2 i 0) + b (ix2 i 0)) * Ideal.ofBits .f32 1056964608#32 := by
  unfold k1_pay37
  pointwise

theorem pay38_apply (a : FVec Ideal S64x1 .f32) (i : Fin 64) (q : Fin 128) :
    k1_pay38 (F := Ideal) a (ix2 i q) = a (ix2 i 0) := by
  unfold k1_pay38
  pointwise

variable (s : Fin 64 → Fin 100000 → EReal) (i : Fin 64) (idx : Fin 65 → Fin 100000) (h : Topk.IsTop (s i) idx)
    (hbot : ∀ j, s i j ≠ ⊥)
    (h5 : ∀ c < 25, ∀ l < 128, Topk.hits (s i) (s i (idx 64)) c l ≤ 5)
    (h10 : ∀ l < 128, ∑ c ∈ Finset.range 25, Topk.hits (s i) (s i (idx 64)) c l ≤ 10)

include h hbot h5 h10

/-- The threshold is half the sum of the 64th and the 65th score. -/
theorem mid_apply (q : Fin 128) :
    mid (F := Ideal) (cands s) (ix2 i q) = (s i (idx 63) + s i (idx 64)) * Ideal.ofBits .f32 1056964608#32 := by
  have a := kept_eq s i idx h hbot h5 h10 63
  have b := kept_eq s i idx h hbot h5 h10 64
  unfold mid
  rw [trips1, pay37_apply, ← a, ← b]
  rfl

/-- The greatest score. -/
theorem top_apply (q : Fin 128) : top (F := Ideal) (cands s) (ix2 i q) = s i (idx 0) := by
  have a := kept_eq s i idx h hbot h5 h10 0
  unfold top
  rw [trips1, pay38_apply, ← a]
  rfl

end Cert.KernelIdeal.Value

end
-- ==== Proof.HeadDefs.lean ====
/- The last part of the model as plain functions of rows: a linear layer, a two-layer tower, and the score of a pair of rows. -/
module

public import Mathlib.Data.EReal.Operations
public import Mathlib.Data.EReal.Inv
public import Mathlib.Algebra.BigOperators.Fin

@[expose] public section

noncomputable section

namespace Cert.Head

/-- A linear layer with a bias. -/
def lin {a b : ℕ} (x : Fin a → EReal) (w : Fin b → Fin a → EReal) (v : Fin b → EReal) (j : Fin b) : EReal :=
  (∑ k, x k * w j k) + v j

/-- Two rows side by side. -/
def pair (x y : Fin 128 → EReal) (k : Fin 256) : EReal :=
  if h : k.val < 128 then x ⟨k.val, h⟩ else y ⟨k.val - 128, by omega⟩

/-- Two linear layers with the positive part between them. -/
def tower (x y : Fin 128 → EReal) (w1 : Fin 128 → Fin 256 → EReal) (v1 : Fin 128 → EReal) (w2 : Fin 128 → Fin 128 → EReal)
    (v2 : Fin 128 → EReal) (j : Fin 128) : EReal :=
  lin (fun k => max (lin (pair x y) w1 v1 k) 0) w2 v2 j

end Cert.Head

end
-- ==== Proof.HeadVal.lean ====
/- What the last launch computes, over the extended reals. -/
module

public import proofs.«01_k».proof.Proof.HeadDefs
public import proofs.«01_k».proof.Proof.Gen.KernelIdeal.Frame.Region6
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Idealize.ShloMosaic.Pipeline (Dat Cfg Window)

/-- A block of 64 rows by its rows. -/
abbrev rows {n : ℕ} (x : FVec Ideal ⟨2, ![64, n]⟩ .f32) (i : Fin 64) (k : Fin n) : EReal := x (ix2 i k)
/-- A matrix by its rows. -/
abbrev mat {a b : ℕ} (x : FVec Ideal ⟨2, ![a, b]⟩ .f32) (i : Fin a) (k : Fin b) : EReal := x (ix2 i k)
/-- The only row of a one-row block. -/
abbrev row1 {n : ℕ} (x : FVec Ideal ⟨2, ![1, n]⟩ .f32) (k : Fin n) : EReal := x (ix2 0 k)

/-- A retrieved row: the weighted sum over the sum of the weights, then the value layer. -/
def got (a z : FVec Ideal S64x128 .f32) (w : FVec Ideal S128x128 .f32) (v : FVec Ideal S1x128 .f32) (i : Fin 64) : Fin 128 → EReal :=
  Head.lin (fun k => Ideal.div (a (ix2 i k)) (z (ix2 i k))) (mat w) (row1 v)

theorem pay2_head (a z : FVec Ideal S64x128 .f32) (w : FVec Ideal S128x128 .f32) (v : FVec Ideal S1x128 .f32) (x : FVec Ideal S64x128 .f32)
    (i : Fin 64) (k : Fin 256) :
    k6_pay2 (F := Ideal) a z w v x (ix2 i k) = Head.pair (rows x i) (got a z w v i) k := by
  unfold k6_pay2 Head.pair got Head.lin
  pointwise

theorem pay5_head (p : FVec Ideal S64x256 .f32) (w1 : FVec Ideal S128x256 .f32) (v1 : FVec Ideal S1x128 .f32) (w2 : FVec Ideal S128x128 .f32) (v2 : FVec Ideal S1x128 .f32)
    (i : Fin 64) (j : Fin 128) :
    k6_pay5 (F := Ideal) p w1 v1 w2 v2 (ix2 i j) = Head.lin (fun k => max (Head.lin (rows p i) (mat w1) (row1 v1) k) 0) (mat w2) (row1 v2) j := by
  unfold k6_pay5 Head.lin
  pointwise

theorem pay7_head (p : FVec Ideal S64x256 .f32) (w1 : FVec Ideal S128x256 .f32) (v1 : FVec Ideal S1x128 .f32) (w2 : FVec Ideal S128x128 .f32) (v2 : FVec Ideal S1x128 .f32)
    (i : Fin 64) :
    k6_pay7 (F := Ideal) p w1 v1 w2 v2 (ix2 i 0) = ∑ j : Fin 128, (k6_pay5 (F := Ideal) p w1 v1 w2 v2 (ix2 i j) : EReal) * k6_pay5 (F := Ideal) p w1 v1 w2 v2 (ix2 i j) := by
  unfold k6_pay7
  pointwise

theorem pay3_head (a z : FVec Ideal S64x128 .f32) (w : FVec Ideal S128x128 .f32) (v : FVec Ideal S1x128 .f32) (x : FVec Ideal S64x128 .f32) (w1 : FVec Ideal S128x256 .f32)
    (i : Fin 64) (j : Fin 128) :
    k6_pay3 (F := Ideal) a z w v x w1 (ix2 i j) = ∑ k : Fin 256, Head.pair (rows x i) (got a z w v i) k * w1 (ix2 j k) := by
  unfold k6_pay3 Head.pair got Head.lin
  pointwise

theorem eps_eq : Named.named (F := Ideal) (φ := .f32) κ "eps_sq" 396017173#32 = ((5316911940649 / 5316911983139663491615228241121378304 : ℝ) : EReal) :=
  IdealRules.named_const.ideal_named_scalar _ _ _ _ rfl

/-- A row times the reciprocal square root of its square, the square held off zero. -/
def scaled (f : Fin 128 → EReal) (j : Fin 128) : EReal :=
  f j * Ideal.rsqrt (max (∑ k, f k * f k) ((5316911940649 / 5316911983139663491615228241121378304 : ℝ) : EReal))

/-- The score of two rows, from their scaled product. -/
def meet (f g : Fin 128 → EReal) : EReal := (∑ j, scaled f j * scaled g j + 1) * Ideal.ofBits .f32 1056964608#32

theorem pay6_head (p : FVec Ideal S64x128 .f32) (v1 : FVec Ideal S1x128 .f32) (w2 : FVec Ideal S128x128 .f32) (v2 : FVec Ideal S1x128 .f32)
    (i : Fin 64) (j : Fin 128) :
    k6_pay6 (F := Ideal) p (k6_pay4 (F := Ideal) v1) w2 v2 (ix2 i j)
      = scaled (Head.lin (fun k => max ((p (ix2 i k) : EReal) + v1 (ix2 0 k)) 0) (mat w2) (row1 v2)) j := by
  unfold k6_pay6 k6_pay4 scaled Head.lin
  rw [← eps_eq]
  pointwise

theorem pay1_head (a b : FVec Ideal S64x128 .f32) (c : FVec Ideal S64x1 .f32) (i : Fin 64) :
    k6_pay1 (F := Ideal) a b c (k6_pay8 (F := Ideal)) (ix2 0 i)
      = (∑ j : Fin 128, (b (ix2 i j) : EReal) * (a (ix2 i j) * Ideal.rsqrt (max (c (ix2 i 0)) ((5316911940649 / 5316911983139663491615228241121378304 : ℝ) : EReal))) + 1) * Ideal.ofBits .f32 1056964608#32 := by
  unfold k6_pay1 k6_pay8
  rw [← eps_eq]
  pointwise

/-- What the last launch writes for pair `i`. -/
def headOf (x0 x1 x2 x3 x4 x5 : FVec Ideal S64x128 .f32) (x6 : FVec Ideal S128x128 .f32) (x7 : FVec Ideal S1x128 .f32) (x8 : FVec Ideal S128x128 .f32) (x9 : FVec Ideal S1x128 .f32)
    (x10 : FVec Ideal S128x256 .f32) (x11 : FVec Ideal S1x128 .f32) (x12 : FVec Ideal S128x128 .f32) (x13 : FVec Ideal S1x128 .f32)
    (x14 : FVec Ideal S128x256 .f32) (x15 : FVec Ideal S1x128 .f32) (x16 : FVec Ideal S128x128 .f32) (x17 : FVec Ideal S1x128 .f32) (i : Fin 64) : EReal :=
  meet (Head.tower (rows x0 i) (got x2 x3 x8 x9 i) (mat x10) (row1 x11) (mat x12) (row1 x13))
    (Head.tower (rows x1 i) (got x4 x5 x6 x7 i) (mat x14) (row1 x15) (mat x16) (row1 x17))

theorem head_apply (x0 x1 x2 x3 x4 x5 : FVec Ideal S64x128 .f32) (x6 : FVec Ideal S128x128 .f32) (x7 : FVec Ideal S1x128 .f32) (x8 : FVec Ideal S128x128 .f32) (x9 : FVec Ideal S1x128 .f32)
    (x10 : FVec Ideal S128x256 .f32) (x11 : FVec Ideal S1x128 .f32) (x12 : FVec Ideal S128x128 .f32) (x13 : FVec Ideal S1x128 .f32)
    (x14 : FVec Ideal S128x256 .f32) (x15 : FVec Ideal S1x128 .f32) (x16 : FVec Ideal S128x128 .f32) (x17 : FVec Ideal S1x128 .f32) (i : Fin 64) :
    k6_pay1 (F := Ideal) (k6_pay5 (k6_pay2 x4 x5 x6 x7 x1) x14 x15 x16 x17) (k6_pay6 (k6_pay3 x2 x3 x8 x9 x0 x10) (k6_pay4 x11) x12 x13)
      (k6_pay7 (k6_pay2 x4 x5 x6 x7 x1) x14 x15 x16 x17) (k6_pay8 (F := Ideal)) (ix2 0 i)
      = headOf x0 x1 x2 x3 x4 x5 x6 x7 x8 x9 x10 x11 x12 x13 x14 x15 x16 x17 i := by
  have e5 : (fun j => (k6_pay5 (F := Ideal) (k6_pay2 x4 x5 x6 x7 x1) x14 x15 x16 x17 (ix2 i j) : EReal))
      = Head.tower (rows x1 i) (got x4 x5 x6 x7 i) (mat x14) (row1 x15) (mat x16) (row1 x17) := by
    funext j
    rw [pay5_head]
    unfold Head.tower
    have : rows (k6_pay2 (F := Ideal) x4 x5 x6 x7 x1) i = Head.pair (rows x1 i) (got x4 x5 x6 x7 i) := funext fun k => pay2_head x4 x5 x6 x7 x1 i k
    rw [this]
  have e6 : (fun j => (k6_pay6 (F := Ideal) (k6_pay3 x2 x3 x8 x9 x0 x10) (k6_pay4 x11) x12 x13 (ix2 i j) : EReal))
      = scaled (Head.tower (rows x0 i) (got x2 x3 x8 x9 i) (mat x10) (row1 x11) (mat x12) (row1 x13)) := by
    funext j
    rw [pay6_head]
    unfold Head.tower
    congr 2
    funext k
    rw [pay3_head]
    rfl
  rw [pay1_head, pay7_head]
  unfold headOf meet
  rw [← e6, ← e5]
  rfl

theorem out6_apply (x0 x1 x2 x3 x4 x5 : FVec Ideal S64x128 .f32) (x6 : FVec Ideal S128x128 .f32) (x7 : FVec Ideal S1x128 .f32) (x8 : FVec Ideal S128x128 .f32) (x9 : FVec Ideal S1x128 .f32)
    (x10 : FVec Ideal S128x256 .f32) (x11 : FVec Ideal S1x128 .f32) (x12 : FVec Ideal S128x128 .f32) (x13 : FVec Ideal S1x128 .f32)
    (x14 : FVec Ideal S128x256 .f32) (x15 : FVec Ideal S1x128 .f32) (x16 : FVec Ideal S128x128 .f32) (x17 : FVec Ideal S1x128 .f32) (y : S1x64.Idx) :
    out6_18 (F := Ideal) x0 x1 x2 x3 x4 x5 x6 x7 x8 x9 x10 x11 x12 x13 x14 x15 x16 x17 y = headOf x0 x1 x2 x3 x4 x5 x6 x7 x8 x9 x10 x11 x12 x13 x14 x15 x16 x17 (y 1) := by
  obtain ⟨i, rfl⟩ : ∃ i : Fin 64, y = ix2 0 i := by
    refine ⟨y 1, ?_⟩
    funext a
    fin_cases a
    · exact Subsingleton.elim (α := Fin 1) _ _
    · rfl
  unfold out6_18 k6_pay9
  frame_out
  exact head_apply x0 x1 x2 x3 x4 x5 x6 x7 x8 x9 x10 x11 x12 x13 x14 x15 x16 x17 i

section
variable (V : (c : Dev nD) → (b : Ref sig .tc) → Buf (Elt Ideal) ((c : Thread nD τ).loc b))

theorem idx6 : ∀ t : Fin cfg6.N, win6_0.index t = ![0, 0] ∧ win6_1.index t = ![0, 0] ∧ win6_2.index t = ![0, 0] ∧ win6_3.index t = ![0, 0] ∧ win6_4.index t = ![0, 0] ∧ win6_5.index t = ![0, 0] ∧ win6_6.index t = ![0, 0] ∧ win6_7.index t = ![0, 0] ∧ win6_8.index t = ![0, 0] ∧ win6_9.index t = ![0, 0] ∧ win6_10.index t = ![0, 0] ∧ win6_11.index t = ![0, 0] ∧ win6_12.index t = ![0, 0] ∧ win6_13.index t = ![0, 0] ∧ win6_14.index t = ![0, 0] ∧ win6_15.index t = ![0, 0] ∧ win6_16.index t = ![0, 0] ∧ win6_17.index t = ![0, 0] ∧ win6_18.index t = ![0, 0] :=
  (by decide +kernel : ∀ t : Fin grid6.N, _)

set_option maxHeartbeats 2000000 in
theorem block6 (c : Dev nD) (t : Fin cfg6.N) :
    iblk6 V c 0 t = V c main_arg0 ∧ iblk6 V c 1 t = V c main_arg1 ∧ iblk6 V c 2 t = V c main_v9_0 ∧ iblk6 V c 3 t = V c main_v9_1
    ∧ iblk6 V c 4 t = V c main_v4_0 ∧ iblk6 V c 5 t = V c main_v4_1 ∧ iblk6 V c 6 t = V c main_arg12 ∧ iblk6 V c 7 t = V c main_v10
    ∧ iblk6 V c 8 t = V c main_arg14 ∧ iblk6 V c 9 t = V c main_v11 ∧ iblk6 V c 10 t = V c main_arg16 ∧ iblk6 V c 11 t = V c main_v12
    ∧ iblk6 V c 12 t = V c main_arg20 ∧ iblk6 V c 13 t = V c main_v13 ∧ iblk6 V c 14 t = V c main_arg18 ∧ iblk6 V c 15 t = V c main_v14
    ∧ iblk6 V c 16 t = V c main_arg22 ∧ iblk6 V c 17 t = V c main_v15 := by
  refine ⟨?_, ?_, ?_, ?_, ?_, ?_, ?_, ?_, ?_, ?_, ?_, ?_, ?_, ?_, ?_, ?_, ?_, ?_⟩ <;>
    (funext y; blk_simp [iblk6]; exact congrArg _ (by blk_ext [idx6 t]))

/-- The scores of the 64 pairs. -/
def heads (c : Dev nD) : FVec Ideal S1x64 .f32 := fun j =>
  headOf (V c main_arg0) (V c main_arg1) (V c main_v9_0) (V c main_v9_1) (V c main_v4_0) (V c main_v4_1) (V c main_arg12) (V c main_v10)
    (V c main_arg14) (V c main_v11) (V c main_arg16) (V c main_v12) (V c main_arg20) (V c main_v13) (V c main_arg18) (V c main_v14)
    (V c main_arg22) (V c main_v15) (j 1)

theorem left6 (c : Dev nD) (t : Fin cfg6.N) : (dat6 V c).after 18 t = heads V c := by
  obtain ⟨e0, e1, e2, e3, e4, e5, e6, e7, e8, e9, e10, e11, e12, e13, e14, e15, e16, e17⟩ := block6 V c t
  rw [after6_18]
  rw [e0, e1, e2, e3, e4, e5, e6, e7, e8, e9, e10, e11, e12, e13, e14, e15, e16, e17]
  funext y
  exact out6_apply _ _ _ _ _ _ _ _ _ _ _ _ _ _ _ _ _ _ y

theorem final6 (c : Dev nD) : (dat6 V c).arrAt 18 cfg6.N = heads V c := by
  refine (dat6 V c).arrAt_eq_of_covers 18 _ (by decide +kernel) fun t _ y => ?_
  blk_simp
  rw [left6]
  have e : (win6_18.blk t).view.emb y = y := by blk_ext [idx6 t]
  rw [e]

end

end Cert.KernelIdeal.Value
-- ==== Proof.AccVal.lean ====
/- What an accumulating launch adds up, over the extended reals. -/
module

public import proofs.«01_k».proof.Proof.CandVal
public import proofs.«01_k».proof.Proof.Gen.KernelIdeal.Frame.Region2
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Idealize.ShloMosaic.Pipeline (Dat Cfg Window)

theorem isq_eq : Named.named (F := Ideal) (φ := .f32) κ "isq" 1035273459#32 = ((1048576 / 11863283 : ℝ) : EReal) :=
  IdealRules.named_const.ideal_named_scalar _ _ _ _ rfl

/-- What a row of score `k` weighs, for the threshold `t` and the greatest score `m`. -/
def weight (t m k : EReal) : EReal := if t ≤ k then Ideal.exp ((k - m) * ((1048576 / 11863283 : ℝ) : EReal)) else 0

theorem pay5_apply (q : FVec Ideal S64x128 .f32) (wq : FVec Ideal S128x128 .f32) (bq : FVec Ideal S1x128 .f32) (wk : FVec Ideal S128x128 .f32)
    (tab : FVec Ideal S4000x128 .f32) (tm ms : FVec Ideal S64x128 .f32) (i : Fin 64) (y : Fin 4000) :
    k2_pay5 (F := Ideal) q wq bq wk tab tm ms (ix2 i y) = weight (tm (ix2 i 0)) (ms (ix2 i 0)) (score (n := 4000) q wq bq wk tab i y) := by
  unfold k2_pay5 weight score
  rw [← isq_eq]
  pointwise

theorem pay1_apply (p : FVec Ideal S64x4000 .f32) (a : FVec Ideal S64x128 .f32) (tab : FVec Ideal S4000x128 .f32) (i : Fin 64) (h : Fin 128) :
    k2_pay1 (F := Ideal) p a tab (ix2 i h) = (a (ix2 i h) : EReal) + ∑ y : Fin 4000, (p (ix2 i y) : EReal) * tab (ix2 y h) := by
  unfold k2_pay1
  pointwise

theorem pay2'_apply (p : FVec Ideal S64x4000 .f32) (a : FVec Ideal S64x128 .f32) (i : Fin 64) (h : Fin 128) :
    k2_pay2 (F := Ideal) p a (ix2 i h) = (a (ix2 i h) : EReal) + ∑ y : Fin 4000, (p (ix2 i y) : EReal) := by
  unfold k2_pay2
  pointwise

theorem zero3 (i : Fin 64) (h : Fin 128) : k2_pay6 (F := Ideal) (k2_pay3 (F := Ideal)) (ix2 i h) = (0 : EReal) := by
  unfold k2_pay6 k2_pay3
  pointwise

theorem zero4 (i : Fin 64) (h : Fin 128) : k2_pay4 (F := Ideal) (ix2 i h) = (0 : EReal) := by
  unfold k2_pay4
  pointwise

/-- The weighted sum of the table's rows. -/
def accs (q : FVec Ideal S64x128 .f32) (wq : FVec Ideal S128x128 .f32) (bq : FVec Ideal S1x128 .f32) (wk : FVec Ideal S128x128 .f32)
    (tab : FVec Ideal S100000x128 .f32) (tm ms : FVec Ideal S64x128 .f32) : FVec Ideal S64x128 .f32 := fun j =>
  ∑ r : Fin 100000, weight (tm (ix2 (j 0) 0)) (ms (ix2 (j 0) 0)) (score (n := 100000) q wq bq wk tab (j 0) r) * tab (ix2 r (j 1))

/-- The sum of the weights, in every column. -/
def norms (q : FVec Ideal S64x128 .f32) (wq : FVec Ideal S128x128 .f32) (bq : FVec Ideal S1x128 .f32) (wk : FVec Ideal S128x128 .f32)
    (tab : FVec Ideal S100000x128 .f32) (tm ms : FVec Ideal S64x128 .f32) : FVec Ideal S64x128 .f32 := fun j =>
  ∑ r : Fin 100000, weight (tm (ix2 (j 0) 0)) (ms (ix2 (j 0) 0)) (score (n := 100000) q wq bq wk tab (j 0) r)

/-- A step of the weighted sum at any place of the block. -/
theorem pay1_at (p : FVec Ideal S64x4000 .f32) (a : FVec Ideal S64x128 .f32) (tab : FVec Ideal S4000x128 .f32) (y : S64x128.Idx) :
    k2_pay1 (F := Ideal) p a tab y = (a y : EReal) + ∑ r : Fin 4000, (p (ix2 (y 0) r) : EReal) * tab (ix2 r (y 1)) := by
  obtain ⟨i, h, rfl⟩ : ∃ (i : Fin 64) (q : Fin 128), y = ix2 i q := ⟨y 0, y 1, by funext a; fin_cases a <;> rfl⟩
  exact pay1_apply p a tab i h

theorem pay2_at (p : FVec Ideal S64x4000 .f32) (a : FVec Ideal S64x128 .f32) (y : S64x128.Idx) :
    k2_pay2 (F := Ideal) p a y = (a y : EReal) + ∑ r : Fin 4000, (p (ix2 (y 0) r) : EReal) := by
  obtain ⟨i, h, rfl⟩ : ∃ (i : Fin 64) (q : Fin 128), y = ix2 i q := ⟨y 0, y 1, by funext a; fin_cases a <;> rfl⟩
  exact pay2'_apply p a i h

theorem zero3_at (y : S64x128.Idx) : k2_pay6 (F := Ideal) (k2_pay3 (F := Ideal)) y = (0 : EReal) := by
  obtain ⟨i, h, rfl⟩ : ∃ (i : Fin 64) (q : Fin 128), y = ix2 i q := ⟨y 0, y 1, by funext a; fin_cases a <;> rfl⟩
  exact zero3 i h

theorem zero4_at (y : S64x128.Idx) : k2_pay4 (F := Ideal) y = (0 : EReal) := by
  obtain ⟨i, h, rfl⟩ : ∃ (i : Fin 64) (q : Fin 128), y = ix2 i q := ⟨y 0, y 1, by funext a; fin_cases a <;> rfl⟩
  exact zero4 i h

theorem same6 (x : FVec Ideal S64x128 .f32) : k2_pay6 (F := Ideal) x = x := by
  funext y
  obtain ⟨i, h, rfl⟩ : ∃ (i : Fin 64) (q : Fin 128), y = ix2 i q := ⟨y 0, y 1, by funext a; fin_cases a <;> rfl⟩
  unfold k2_pay6
  pointwise

section
variable (V : (c : Dev nD) → (b : Ref sig .tc) → Buf (Elt Ideal) ((c : Thread nD τ).loc b))

theorem idx2 : ∀ t : Fin cfg2.N, win2_0.index t = ![0, 0] ∧ win2_1.index t = ![0, 0] ∧ win2_2.index t = ![0, 0] ∧ win2_3.index t = ![0, 0]
    ∧ win2_4.index t = ![t.val, 0] ∧ win2_5.index t = ![0, 0] ∧ win2_6.index t = ![0, 0] ∧ win2_7.index t = ![0, 0] ∧ win2_8.index t = ![0, 0] :=
  (by decide +kernel : ∀ t : Fin grid2.N, _)

/-- The weights of the rows of block `p`. -/
def wts2 (c : Dev nD) (p : Fin cfg2.N) : FVec Ideal S64x4000 .f32 :=
  k2_pay5 (F := Ideal) (iblk2 V c 0 p) (iblk2 V c 1 p) (iblk2 V c 2 p) (iblk2 V c 3 p) (iblk2 V c 4 p) (iblk2 V c 5 p) (iblk2 V c 6 p)

theorem wts2_apply (c : Dev nD) (p : Fin cfg2.N) (s : ℕ) (hs : p.val = s) (i : Fin 64) (r : Fin 4000) (h : s * 4000 + r.val < 100000) :
    wts2 V c p (ix2 i r) = weight ((V c main_v2_0 : FVec Ideal S64x128 .f32) (ix2 i 0)) ((V c main_v2_1 : FVec Ideal S64x128 .f32) (ix2 i 0))
      (score (n := 100000) (V c main_arg1) (V c main_arg6) (V c main_v3) (V c main_arg8) (V c main_arg2) i ⟨s * 4000 + r.val, h⟩) := by
  subst hs
  unfold wts2
  rw [pay5_apply]
  unfold score
  blk_point [iblk2, idx2 p]

theorem tab2_apply (c : Dev nD) (p : Fin cfg2.N) (s : ℕ) (hs : p.val = s) (r : Fin 4000) (k : Fin 128) (h : s * 4000 + r.val < 100000) :
    (iblk2 V c 4 p : FVec Ideal S4000x128 .f32) (ix2 r k) = (V c main_arg2 : FVec Ideal S100000x128 .f32) (ix2 ⟨s * 4000 + r.val, h⟩ k) := by
  subst hs
  blk_point [iblk2, idx2 p]

theorem final2_7 (c : Dev nD) : (dat2 V c).arrAt 7 cfg2.N
    = accs (V c main_arg1) (V c main_arg6) (V c main_v3) (V c main_arg8) (V c main_arg2) (V c main_v2_0) (V c main_v2_1) := by
  refine (dat2 V c).arrAt_eq_of_covers 7 _ (by decide +kernel) fun t hf y => ?_
  blk_simp
  rw [after2_7, Pipeline.eq_sum_fin_of_reset_step_apply_of_flush (fun n h => (outsAt2 V c n h).1) 25 (fun _ => (0 : EReal))
    (fun p j => ∑ r : Fin 4000, (wts2 V c p (ix2 (j 0) r) : EReal) * (iblk2 V c 4 p : FVec Ideal S4000x128 .f32) (ix2 r (j 1)))
    (fun t h j => by
      rw [outsAt2_A V c t h]; frame_out
      exact (pay1_at _ _ _ j).trans (congrArg (· + _) (zero3_at j)))
    (fun t h j => by
      rw [outsAt2_B V c t h]; frame_out
      exact (pay1_at _ _ _ j).trans (congrArg (fun z : FVec Ideal S64x128 .f32 => (z j : EReal) + _) (same6 _)))
    t ((flush2_7 t).mp hf) _, zero_add]
  have ht : t.val < 25 := t.isLt
  have e : (win2_7.blk t).view.emb y = y := by blk_ext [idx2 t]
  rw [e]
  unfold accs
  refine Fin.sum_mul_add_congr fun s k hl => ?_
  have hp : (⟨25 * (t.val / 25) + s.val, Pipeline.run_point_lt_of_flush t ((flush2_7 t).mp hf) s⟩ : Fin cfg2.N).val = s.val := by
    show 25 * (t.val / 25) + s.val = s.val; omega
  exact congrArg₂ (· * ·) (wts2_apply V c _ _ hp (y 0) k hl) (tab2_apply V c _ _ hp k (y 1) hl)

theorem final2_8 (c : Dev nD) : (dat2 V c).arrAt 8 cfg2.N
    = norms (V c main_arg1) (V c main_arg6) (V c main_v3) (V c main_arg8) (V c main_arg2) (V c main_v2_0) (V c main_v2_1) := by
  refine (dat2 V c).arrAt_eq_of_covers 8 _ (by decide +kernel) fun t hf y => ?_
  blk_simp
  rw [after2_8, Pipeline.eq_sum_fin_of_reset_step_apply_of_flush (fun n h => (outsAt2 V c n h).2) 25 (fun _ => (0 : EReal))
    (fun p j => ∑ r : Fin 4000, (wts2 V c p (ix2 (j 0) r) : EReal))
    (fun t h j => by
      rw [outsAt2_A V c t h]; frame_out
      exact (pay2_at _ _ j).trans (congrArg (· + _) (zero4_at j)))
    (fun t h j => by
      rw [outsAt2_B V c t h]; frame_out
      exact pay2_at _ _ j)
    t ((flush2_8 t).mp hf) _, zero_add]
  have ht : t.val < 25 := t.isLt
  have e : (win2_8.blk t).view.emb y = y := by blk_ext [idx2 t]
  rw [e]
  unfold norms
  refine Fin.sum_mul_add_congr fun s k hl => ?_
  have hp : (⟨25 * (t.val / 25) + s.val, Pipeline.run_point_lt_of_flush t ((flush2_8 t).mp hf) s⟩ : Fin cfg2.N).val = s.val := by
    show 25 * (t.val / 25) + s.val = s.val; omega
  exact wts2_apply V c _ _ hp (y 0) k hl

end

end Cert.KernelIdeal.Value
-- ==== Proof.AccVal5.lean ====
/- What the second accumulating launch adds up, over the extended reals. -/
module

public import proofs.«01_k».proof.Proof.AccVal
public import proofs.«01_k».proof.Proof.Gen.KernelIdeal.Frame.Region5
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Idealize.ShloMosaic.Pipeline (Dat Cfg Window)

section
variable (V : (c : Dev nD) → (b : Ref sig .tc) → Buf (Elt Ideal) ((c : Thread nD τ).loc b))

theorem idx5 : ∀ t : Fin cfg5.N, win5_0.index t = ![0, 0] ∧ win5_1.index t = ![0, 0] ∧ win5_2.index t = ![0, 0] ∧ win5_3.index t = ![0, 0]
    ∧ win5_4.index t = ![t.val, 0] ∧ win5_5.index t = ![0, 0] ∧ win5_6.index t = ![0, 0] ∧ win5_7.index t = ![0, 0] ∧ win5_8.index t = ![0, 0] :=
  (by decide +kernel : ∀ t : Fin grid5.N, _)

/-- The weights of the rows of block `p`. -/
def wts5 (c : Dev nD) (p : Fin cfg5.N) : FVec Ideal S64x4000 .f32 :=
  k2_pay5 (F := Ideal) (iblk5 V c 0 p) (iblk5 V c 1 p) (iblk5 V c 2 p) (iblk5 V c 3 p) (iblk5 V c 4 p) (iblk5 V c 5 p) (iblk5 V c 6 p)

theorem wts5_apply (c : Dev nD) (p : Fin cfg5.N) (s : ℕ) (hs : p.val = s) (i : Fin 64) (r : Fin 4000) (h : s * 4000 + r.val < 100000) :
    wts5 V c p (ix2 i r) = weight ((V c main_v7_0 : FVec Ideal S64x128 .f32) (ix2 i 0)) ((V c main_v7_1 : FVec Ideal S64x128 .f32) (ix2 i 0))
      (score (n := 100000) (V c main_arg0) (V c main_arg4) (V c main_v8) (V c main_arg10) (V c main_arg3) i ⟨s * 4000 + r.val, h⟩) := by
  subst hs
  unfold wts5
  rw [pay5_apply]
  unfold score
  blk_point [iblk5, idx5 p]

theorem tab5_apply (c : Dev nD) (p : Fin cfg5.N) (s : ℕ) (hs : p.val = s) (r : Fin 4000) (k : Fin 128) (h : s * 4000 + r.val < 100000) :
    (iblk5 V c 4 p : FVec Ideal S4000x128 .f32) (ix2 r k) = (V c main_arg3 : FVec Ideal S100000x128 .f32) (ix2 ⟨s * 4000 + r.val, h⟩ k) := by
  subst hs
  blk_point [iblk5, idx5 p]

theorem final5_7 (c : Dev nD) : (dat5 V c).arrAt 7 cfg5.N
    = accs (V c main_arg0) (V c main_arg4) (V c main_v8) (V c main_arg10) (V c main_arg3) (V c main_v7_0) (V c main_v7_1) := by
  refine (dat5 V c).arrAt_eq_of_covers 7 _ (by decide +kernel) fun t hf y => ?_
  blk_simp
  rw [after5_7, Pipeline.eq_sum_fin_of_reset_step_apply_of_flush (fun n h => (outsAt5 V c n h).1) 25 (fun _ => (0 : EReal))
    (fun p j => ∑ r : Fin 4000, (wts5 V c p (ix2 (j 0) r) : EReal) * (iblk5 V c 4 p : FVec Ideal S4000x128 .f32) (ix2 r (j 1)))
    (fun t h j => by
      rw [outsAt5_A V c t h]; frame_out
      exact (pay1_at _ _ _ j).trans (congrArg (· + _) (zero3_at j)))
    (fun t h j => by
      rw [outsAt5_B V c t h]; frame_out
      exact (pay1_at _ _ _ j).trans (congrArg (fun z : FVec Ideal S64x128 .f32 => (z j : EReal) + _) (same6 _)))
    t ((flush5_7 t).mp hf) _, zero_add]
  have ht : t.val < 25 := t.isLt
  have e : (win5_7.blk t).view.emb y = y := by blk_ext [idx5 t]
  rw [e]
  unfold accs
  refine Fin.sum_mul_add_congr fun s k hl => ?_
  have hp : (⟨25 * (t.val / 25) + s.val, Pipeline.run_point_lt_of_flush t ((flush5_7 t).mp hf) s⟩ : Fin cfg5.N).val = s.val := by
    show 25 * (t.val / 25) + s.val = s.val; omega
  exact congrArg₂ (· * ·) (wts5_apply V c _ _ hp (y 0) k hl) (tab5_apply V c _ _ hp k (y 1) hl)

theorem final5_8 (c : Dev nD) : (dat5 V c).arrAt 8 cfg5.N
    = norms (V c main_arg0) (V c main_arg4) (V c main_v8) (V c main_arg10) (V c main_arg3) (V c main_v7_0) (V c main_v7_1) := by
  refine (dat5 V c).arrAt_eq_of_covers 8 _ (by decide +kernel) fun t hf y => ?_
  blk_simp
  rw [after5_8, Pipeline.eq_sum_fin_of_reset_step_apply_of_flush (fun n h => (outsAt5 V c n h).2) 25 (fun _ => (0 : EReal))
    (fun p j => ∑ r : Fin 4000, (wts5 V c p (ix2 (j 0) r) : EReal))
    (fun t h j => by
      rw [outsAt5_A V c t h]; frame_out
      exact (pay2_at _ _ j).trans (congrArg (· + _) (zero4_at j)))
    (fun t h j => by
      rw [outsAt5_B V c t h]; frame_out
      exact pay2_at _ _ j)
    t ((flush5_8 t).mp hf) _, zero_add]
  have ht : t.val < 25 := t.isLt
  have e : (win5_8.blk t).view.emb y = y := by blk_ext [idx5 t]
  rw [e]
  unfold norms
  refine Fin.sum_mul_add_congr fun s k hl => ?_
  have hp : (⟨25 * (t.val / 25) + s.val, Pipeline.run_point_lt_of_flush t ((flush5_8 t).mp hf) s⟩ : Fin cfg5.N).val = s.val := by
    show 25 * (t.val / 25) + s.val = s.val; omega
  exact wts5_apply V c _ _ hp (y 0) k hl

end

end Cert.KernelIdeal.Value
-- ==== Proof.Fold.lean ====
/- The kernel's result from its arguments: each launch's output read off the contents the launch before it leaves. -/
module

public import proofs.«01_k».proof.Proof.HeadVal
public import proofs.«01_k».proof.Proof.AccVal5
public import proofs.«01_k».proof.Proof.CandArr
public import proofs.«01_k».proof.Proof.Thresh
public import proofs.«01_k».proof.Proof.Gen.KernelIdeal.Frame
public import Idealize.ShloMosaic.Lib.StableHlo.RunRead

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Idealize.ShloMosaic.Pipeline (Dat Cfg Window)

/-- A bias laid out as a block of one row. -/
def flat (b : FVec Ideal S128 .f32) : FVec Ideal S1x128 .f32 := fun j => b (ix1 (j 1))

/-- Reshaping a bias to one row lays it out as a block of one row. -/
theorem cast_flat (b : FVec Ideal S128 .f32) (h : S128.ShapeCasts S1x128) : shapeCast S1x128 b h = flat b := by
  funext j
  have key (k : Fin 128) : shapeCast S1x128 b h (ix2 0 k) = b (ix1 k) := by pointwise
  have h0 : j 0 = (0 : Fin 1) := Subsingleton.elim (α := Fin 1) (j 0) 0
  rw [eq_ix2 j, h0]
  exact key (j 1)

variable (m : (ℓ : Loc nD τ sig) → Buf (Elt Ideal) ℓ) (ρ : Dev nD → PrngReg) (c : Dev nD)

/-- An argument's contents at launch. -/
abbrev arg (r : Ref sig .tc) : Buf (Elt Ideal) ((c : Thread nD τ).loc r) := m ((c : Thread nD τ).loc r)

theorem W1_v0 : (W1 m ρ c (Proc.devRef .tc main_v0) : FVec Ideal S1x128 .f32) = flat (arg m c main_arg7) := by
  show StableHlo.after hostOps0 (W0 m ρ c) _ = _
  after_reads_simp
  exact cast_flat (arg m c main_arg7) _

theorem W4_v3 : (W4 m ρ c (Proc.devRef .tc main_v3) : FVec Ideal S1x128 .f32) = flat (arg m c main_arg7) := by
  show StableHlo.after hostOps2 (W3 m ρ c) _ = _
  after_reads_simp
  rw [W3_args m ρ c main_arg7 (by decide)]
  exact cast_flat (arg m c main_arg7) _

theorem W6_v5 : (W6 m ρ c (Proc.devRef .tc main_v5) : FVec Ideal S1x128 .f32) = flat (arg m c main_arg5) := by
  show StableHlo.after hostOps3 (W5 m ρ c) _ = _
  after_reads_simp
  rw [W5_args m ρ c main_arg5 (by decide)]
  exact cast_flat (arg m c main_arg5) _

theorem W9_v8 : (W9 m ρ c (Proc.devRef .tc main_v8) : FVec Ideal S1x128 .f32) = flat (arg m c main_arg5) := by
  show StableHlo.after hostOps5 (W8 m ρ c) _ = _
  after_reads_simp
  rw [W8_args m ρ c main_arg5 (by decide)]
  exact cast_flat (arg m c main_arg5) _

/-- The six biases of the last launch, each laid out as one row. -/
theorem W11_biases :
    (W11 m ρ c (Proc.devRef .tc main_v10) : FVec Ideal S1x128 .f32) = flat (arg m c main_arg13)
    ∧ (W11 m ρ c (Proc.devRef .tc main_v11) : FVec Ideal S1x128 .f32) = flat (arg m c main_arg15)
    ∧ (W11 m ρ c (Proc.devRef .tc main_v12) : FVec Ideal S1x128 .f32) = flat (arg m c main_arg17)
    ∧ (W11 m ρ c (Proc.devRef .tc main_v13) : FVec Ideal S1x128 .f32) = flat (arg m c main_arg21)
    ∧ (W11 m ρ c (Proc.devRef .tc main_v14) : FVec Ideal S1x128 .f32) = flat (arg m c main_arg19)
    ∧ (W11 m ρ c (Proc.devRef .tc main_v15) : FVec Ideal S1x128 .f32) = flat (arg m c main_arg23) := by
  refine ⟨?_, ?_, ?_, ?_, ?_, ?_⟩ <;> (show StableHlo.after hostOps6 (W10 m ρ c) _ = _) <;> after_reads_simp
  · rw [W10_args m ρ c main_arg13 (by decide)]; exact cast_flat (arg m c main_arg13) _
  · rw [W10_args m ρ c main_arg15 (by decide)]; exact cast_flat (arg m c main_arg15) _
  · rw [W10_args m ρ c main_arg17 (by decide)]; exact cast_flat (arg m c main_arg17) _
  · rw [W10_args m ρ c main_arg21 (by decide)]; exact cast_flat (arg m c main_arg21) _
  · rw [W10_args m ρ c main_arg19 (by decide)]; exact cast_flat (arg m c main_arg19) _
  · rw [W10_args m ρ c main_arg23 (by decide)]; exact cast_flat (arg m c main_arg23) _

/-- The sorted scores a direction works with, and the two thresholds the kernel reads off them. -/
def found (q : FVec Ideal S64x128 .f32) (wq : FVec Ideal S128x128 .f32) (bq : FVec Ideal S128 .f32) (wk : FVec Ideal S128x128 .f32)
    (tab : FVec Ideal S100000x128 .f32) : FVec Ideal S64x16000 .f32 :=
  cands (score (n := 100000) q wq (flat bq) wk tab)

/-- The weighted sum of the table's rows a direction leaves. -/
def gathered (q : FVec Ideal S64x128 .f32) (wq : FVec Ideal S128x128 .f32) (bq : FVec Ideal S128 .f32) (wk : FVec Ideal S128x128 .f32)
    (tab : FVec Ideal S100000x128 .f32) : FVec Ideal S64x128 .f32 :=
  accs q wq (flat bq) wk tab (mid (found q wq bq wk tab)) (top (found q wq bq wk tab))

/-- The sum of the weights a direction leaves. -/
def weighed (q : FVec Ideal S64x128 .f32) (wq : FVec Ideal S128x128 .f32) (bq : FVec Ideal S128 .f32) (wk : FVec Ideal S128x128 .f32)
    (tab : FVec Ideal S100000x128 .f32) : FVec Ideal S64x128 .f32 :=
  norms q wq (flat bq) wk tab (mid (found q wq bq wk tab)) (top (found q wq bq wk tab))

theorem W2_v1 : (W2 m ρ c (Proc.devRef .tc main_v1) : FVec Ideal S64x16000 .f32)
    = found (arg m c main_arg1) (arg m c main_arg6) (arg m c main_arg7) (arg m c main_arg8) (arg m c main_arg2) := by
  refine (W2_arr m ρ c 5).trans ((final0 (V1 m ρ) c).trans ?_)
  unfold found
  rw [show V1 m ρ c main_arg1 = arg m c main_arg1 from W1_args m ρ c main_arg1 (by decide),
    show V1 m ρ c main_arg6 = arg m c main_arg6 from W1_args m ρ c main_arg6 (by decide),
    show V1 m ρ c main_arg8 = arg m c main_arg8 from W1_args m ρ c main_arg8 (by decide),
    show V1 m ρ c main_arg2 = arg m c main_arg2 from W1_args m ρ c main_arg2 (by decide),
    show V1 m ρ c main_v0 = flat (arg m c main_arg7) from W1_v0 m ρ c]

theorem W4_v2 :
    (W4 m ρ c (Proc.devRef .tc main_v2_0) : FVec Ideal S64x128 .f32) = mid (F := Ideal) (found (arg m c main_arg1) (arg m c main_arg6) (arg m c main_arg7) (arg m c main_arg8) (arg m c main_arg2))
    ∧ (W4 m ρ c (Proc.devRef .tc main_v2_1) : FVec Ideal S64x128 .f32) = top (F := Ideal) (found (arg m c main_arg1) (arg m c main_arg6) (arg m c main_arg7) (arg m c main_arg8) (arg m c main_arg2)) := by
  have h : V2 m ρ c main_v1 = _ := W2_v1 m ρ c
  constructor
  · refine (W4_of m ρ c main_v2_0 (by decide)).trans ((W3_arr m ρ c 1).trans ((final1 (V2 m ρ) c).1.trans ?_))
    rw [h]
  · refine (W4_of m ρ c main_v2_1 (by decide)).trans ((W3_arr m ρ c 2).trans ((final1 (V2 m ρ) c).2.trans ?_))
    rw [h]

theorem W5_v4 :
    (W5 m ρ c (Proc.devRef .tc main_v4_0) : FVec Ideal S64x128 .f32) = gathered (arg m c main_arg1) (arg m c main_arg6) (arg m c main_arg7) (arg m c main_arg8) (arg m c main_arg2)
    ∧ (W5 m ρ c (Proc.devRef .tc main_v4_1) : FVec Ideal S64x128 .f32) = weighed (arg m c main_arg1) (arg m c main_arg6) (arg m c main_arg7) (arg m c main_arg8) (arg m c main_arg2) := by
  have h1 : V4 m ρ c main_arg1 = arg m c main_arg1 := W4_args m ρ c main_arg1 (by decide)
  have h2 : V4 m ρ c main_arg6 = arg m c main_arg6 := W4_args m ρ c main_arg6 (by decide)
  have h3 : V4 m ρ c main_arg8 = arg m c main_arg8 := W4_args m ρ c main_arg8 (by decide)
  have h4 : V4 m ρ c main_arg2 = arg m c main_arg2 := W4_args m ρ c main_arg2 (by decide)
  have h5 : V4 m ρ c main_v3 = flat (arg m c main_arg7) := W4_v3 m ρ c
  have h6 : V4 m ρ c main_v2_0 = _ := (W4_v2 m ρ c).1
  have h7 : V4 m ρ c main_v2_1 = _ := (W4_v2 m ρ c).2
  constructor
  · refine (W5_arr m ρ c 7).trans ((final2_7 (V4 m ρ) c).trans ?_)
    rw [h1, h2, h3, h4, h5, h6, h7]; rfl
  · refine (W5_arr m ρ c 8).trans ((final2_8 (V4 m ρ) c).trans ?_)
    rw [h1, h2, h3, h4, h5, h6, h7]; rfl

theorem W7_v6 : (W7 m ρ c (Proc.devRef .tc main_v6) : FVec Ideal S64x16000 .f32)
    = found (arg m c main_arg0) (arg m c main_arg4) (arg m c main_arg5) (arg m c main_arg10) (arg m c main_arg3) := by
  refine (W7_arr m ρ c 5).trans ((final3 (V6 m ρ) c).trans ?_)
  unfold found
  rw [show V6 m ρ c main_arg0 = arg m c main_arg0 from W6_args m ρ c main_arg0 (by decide),
    show V6 m ρ c main_arg4 = arg m c main_arg4 from W6_args m ρ c main_arg4 (by decide),
    show V6 m ρ c main_arg10 = arg m c main_arg10 from W6_args m ρ c main_arg10 (by decide),
    show V6 m ρ c main_arg3 = arg m c main_arg3 from W6_args m ρ c main_arg3 (by decide),
    show V6 m ρ c main_v5 = flat (arg m c main_arg5) from W6_v5 m ρ c]

theorem W9_v7 :
    (W9 m ρ c (Proc.devRef .tc main_v7_0) : FVec Ideal S64x128 .f32) = mid (F := Ideal) (found (arg m c main_arg0) (arg m c main_arg4) (arg m c main_arg5) (arg m c main_arg10) (arg m c main_arg3))
    ∧ (W9 m ρ c (Proc.devRef .tc main_v7_1) : FVec Ideal S64x128 .f32) = top (F := Ideal) (found (arg m c main_arg0) (arg m c main_arg4) (arg m c main_arg5) (arg m c main_arg10) (arg m c main_arg3)) := by
  have h : V7 m ρ c main_v6 = _ := W7_v6 m ρ c
  constructor
  · refine (W9_of m ρ c main_v7_0 (by decide)).trans ((W8_arr m ρ c 1).trans ((final4 (V7 m ρ) c).1.trans ?_))
    rw [h]
  · refine (W9_of m ρ c main_v7_1 (by decide)).trans ((W8_arr m ρ c 2).trans ((final4 (V7 m ρ) c).2.trans ?_))
    rw [h]

theorem W10_v9 :
    (W10 m ρ c (Proc.devRef .tc main_v9_0) : FVec Ideal S64x128 .f32) = gathered (arg m c main_arg0) (arg m c main_arg4) (arg m c main_arg5) (arg m c main_arg10) (arg m c main_arg3)
    ∧ (W10 m ρ c (Proc.devRef .tc main_v9_1) : FVec Ideal S64x128 .f32) = weighed (arg m c main_arg0) (arg m c main_arg4) (arg m c main_arg5) (arg m c main_arg10) (arg m c main_arg3) := by
  have h1 : V9 m ρ c main_arg0 = arg m c main_arg0 := W9_args m ρ c main_arg0 (by decide)
  have h2 : V9 m ρ c main_arg4 = arg m c main_arg4 := W9_args m ρ c main_arg4 (by decide)
  have h3 : V9 m ρ c main_arg10 = arg m c main_arg10 := W9_args m ρ c main_arg10 (by decide)
  have h4 : V9 m ρ c main_arg3 = arg m c main_arg3 := W9_args m ρ c main_arg3 (by decide)
  have h5 : V9 m ρ c main_v8 = flat (arg m c main_arg5) := W9_v8 m ρ c
  have h6 : V9 m ρ c main_v7_0 = _ := (W9_v7 m ρ c).1
  have h7 : V9 m ρ c main_v7_1 = _ := (W9_v7 m ρ c).2
  constructor
  · refine (W10_arr m ρ c 7).trans ((final5_7 (V9 m ρ) c).trans ?_)
    rw [h1, h2, h3, h4, h5, h6, h7]; rfl
  · refine (W10_arr m ρ c 8).trans ((final5_8 (V9 m ρ) c).trans ?_)
    rw [h1, h2, h3, h4, h5, h6, h7]; rfl

/-- What the first direction left is still there when the last launch starts. -/
theorem W11_kept (r : Ref sig .tc) (h3 : r ∉ hostOps3_W) (h7 : ∀ w, Pipeline.arrRef spec3 w ≠ r) (h8 : ∀ w, Pipeline.arrRef spec4 w ≠ r)
    (h9 : r ∉ hostOps5_W) (h10 : ∀ w, Pipeline.arrRef spec5 w ≠ r) (h11 : r ∉ hostOps6_W) :
    W11 m ρ c (Proc.devRef .tc r) = W5 m ρ c (Proc.devRef .tc r) :=
  (W11_of m ρ c r h11).trans ((W10_of_ne m ρ c r h10).trans ((W9_of m ρ c r h9).trans
    ((W8_of_ne m ρ c r h8).trans ((W7_of_ne m ρ c r h7).trans (W6_of m ρ c r h3)))))

/-- The kernel's result from its arguments. -/
def outcome (x0 x1 : FVec Ideal S64x128 .f32) (x2 x3 : FVec Ideal S100000x128 .f32) (x4 : FVec Ideal S128x128 .f32) (x5 : FVec Ideal S128 .f32)
    (x6 : FVec Ideal S128x128 .f32) (x7 : FVec Ideal S128 .f32) (x8 x10 : FVec Ideal S128x128 .f32)
    (x12 : FVec Ideal S128x128 .f32) (x13 : FVec Ideal S128 .f32) (x14 : FVec Ideal S128x128 .f32) (x15 : FVec Ideal S128 .f32)
    (x16 : FVec Ideal S128x256 .f32) (x17 : FVec Ideal S128 .f32) (x18 : FVec Ideal S128x256 .f32) (x19 : FVec Ideal S128 .f32)
    (x20 : FVec Ideal S128x128 .f32) (x21 : FVec Ideal S128 .f32) (x22 : FVec Ideal S128x128 .f32) (x23 : FVec Ideal S128 .f32) (i : Fin 64) : EReal :=
  headOf x0 x1 (gathered x0 x4 x5 x10 x3) (weighed x0 x4 x5 x10 x3) (gathered x1 x6 x7 x8 x2) (weighed x1 x6 x7 x8 x2)
    x12 (flat x13) x14 (flat x15) x16 (flat x17) x20 (flat x21) x18 (flat x19) x22 (flat x23) i

/-- The one row of results laid out as a vector. -/
theorem cast_row (b : FVec Ideal S1x64 .f32) (h : S1x64.ShapeCasts S64) : shapeCast S64 b h = fun j => b (ix2 0 (j 0)) := by
  funext j
  have key (i : Fin 64) : shapeCast S64 b h (ix1 i) = b (ix2 0 i) := by pointwise
  rw [eq_ix1 j]
  exact key (j 0)

/-- The last launch's row from the contents of its operands. -/
theorem heads_of (V : (c : Dev nD) → (b : Ref sig .tc) → Buf (Elt Ideal) ((c : Thread nD τ).loc b)) (c : Dev nD)
    {x0 : FVec Ideal S64x128 .f32} (h0 : V c main_arg0 = x0)
    {x1 : FVec Ideal S64x128 .f32} (h1 : V c main_arg1 = x1)
    {x2 : FVec Ideal S64x128 .f32} (h2 : V c main_v9_0 = x2)
    {x3 : FVec Ideal S64x128 .f32} (h3 : V c main_v9_1 = x3)
    {x4 : FVec Ideal S64x128 .f32} (h4 : V c main_v4_0 = x4)
    {x5 : FVec Ideal S64x128 .f32} (h5 : V c main_v4_1 = x5)
    {x6 : FVec Ideal S128x128 .f32} (h6 : V c main_arg12 = x6)
    {x7 : FVec Ideal S1x128 .f32} (h7 : V c main_v10 = x7)
    {x8 : FVec Ideal S128x128 .f32} (h8 : V c main_arg14 = x8)
    {x9 : FVec Ideal S1x128 .f32} (h9 : V c main_v11 = x9)
    {x10 : FVec Ideal S128x256 .f32} (h10 : V c main_arg16 = x10)
    {x11 : FVec Ideal S1x128 .f32} (h11 : V c main_v12 = x11)
    {x12 : FVec Ideal S128x128 .f32} (h12 : V c main_arg20 = x12)
    {x13 : FVec Ideal S1x128 .f32} (h13 : V c main_v13 = x13)
    {x14 : FVec Ideal S128x256 .f32} (h14 : V c main_arg18 = x14)
    {x15 : FVec Ideal S1x128 .f32} (h15 : V c main_v14 = x15)
    {x16 : FVec Ideal S128x128 .f32} (h16 : V c main_arg22 = x16)
    {x17 : FVec Ideal S1x128 .f32} (h17 : V c main_v15 = x17)
    (i : Fin 64) : heads V c (ix2 0 i) = headOf x0 x1 x2 x3 x4 x5 x6 x7 x8 x9 x10 x11 x12 x13 x14 x15 x16 x17 i := by
  subst h0 h1 h2 h3 h4 h5 h6 h7 h8 h9 h10 h11 h12 h13 h14 h15 h16 h17
  rfl

theorem W13_v17 : (W13 m ρ c (Proc.devRef .tc main_v17) : FVec Ideal S64 .f32) = fun j =>
    outcome (arg m c main_arg0) (arg m c main_arg1) (arg m c main_arg2) (arg m c main_arg3) (arg m c main_arg4) (arg m c main_arg5)
      (arg m c main_arg6) (arg m c main_arg7) (arg m c main_arg8) (arg m c main_arg10) (arg m c main_arg12) (arg m c main_arg13)
      (arg m c main_arg14) (arg m c main_arg15) (arg m c main_arg16) (arg m c main_arg17) (arg m c main_arg18) (arg m c main_arg19)
      (arg m c main_arg20) (arg m c main_arg21) (arg m c main_arg22) (arg m c main_arg23) (j 0) := by
  have h : (W12 m ρ c (Proc.devRef .tc main_v16) : FVec Ideal S1x64 .f32) = heads (V11 m ρ) c :=
    (W12_arr m ρ c 18).trans (final6 (V11 m ρ) c)
  have hv : (W13 m ρ c (Proc.devRef .tc main_v17) : FVec Ideal S64 .f32) = fun j => heads (V11 m ρ) c (ix2 0 (j 0)) := by
    show StableHlo.after hostOps7 (W12 m ρ c) _ = _
    after_reads_simp
    refine Eq.trans (cast_row (W12 m ρ c (Proc.devRef .tc main_v16)) shapeCasts_S1x64_S64) ?_
    rw [h]; rfl
  obtain ⟨b1, b2, b3, b4, b5, b6⟩ := W11_biases m ρ c
  refine hv.trans (funext fun j => ?_)
  exact heads_of (V11 m ρ) c
    (W11_args m ρ c main_arg0 (by decide))
    (W11_args m ρ c main_arg1 (by decide))
    ((W11_of m ρ c main_v9_0 (by decide)).trans (W10_v9 m ρ c).1)
    ((W11_of m ρ c main_v9_1 (by decide)).trans (W10_v9 m ρ c).2)
    ((W11_kept m ρ c main_v4_0 (by decide) (by decide) (by decide) (by decide) (by decide) (by decide)).trans (W5_v4 m ρ c).1)
    ((W11_kept m ρ c main_v4_1 (by decide) (by decide) (by decide) (by decide) (by decide) (by decide)).trans (W5_v4 m ρ c).2)
    (W11_args m ρ c main_arg12 (by decide))
    b1
    (W11_args m ρ c main_arg14 (by decide))
    b2
    (W11_args m ρ c main_arg16 (by decide))
    b3
    (W11_args m ρ c main_arg20 (by decide))
    b4
    (W11_args m ρ c main_arg18 (by decide))
    b5
    (W11_args m ρ c main_arg22 (by decide))
    b6
    (j 0)

end Cert.KernelIdeal.Value
-- ==== Proof.Listed.lean ====
/- What a top-k operation lists: the rows of greatest score in each row of a score table. -/
module

public import proofs.«01_k».proof.Proof.Rank
public import Idealize.ShloMosaic.Lib.SortFacts
public import Idealize.ShloMosaic.Lib.Pointwise
public import Idealize.ShloMosaic.PureOps.Ideal

@[expose] public section

set_option maxRecDepth 16384

noncomputable section

namespace Cert.Topk

open Idealize.ShloMosaic Idealize.ShloMosaic.Tactic

variable {n K : ℕ}

/-- "Before" in the order of the operation: greater first. -/
abbrev first (s : Fin n → EReal) (a b : Fin n) : Bool := FloatOps.cmpfTotal (F := Ideal) (φ := .f32) .gt (s a) (s b) == 1#1

theorem first_iff (s : Fin n → EReal) (a b : Fin n) : first s a b = true ↔ s b < s a := by
  unfold first
  show (BitVec.ofBool (decide (s a > s b)) == 1#1) = true ↔ _
  by_cases h : s a > s b <;> simp [h]

/-- The row at each place, greatest score first. -/
def listed (s : Fin n → EReal) (h : K ≤ n) (r : Fin K) : Fin n := sortedFrom (first s) (r.castLE h)

theorem listed_noInversion (s : Fin n → EReal) (i j : Fin n) (hij : i < j) :
    s (sortedFrom (first s) j) ≤ s (sortedFrom (first s) i) := by
  have h := sortedFrom_noInversion (first s) (first s)
    (fun a b hab => Bool.eq_false_iff.mpr fun hba => absurd ((first_iff s a b).mp hab) (not_lt.mpr ((first_iff s b a).mp hba).le))
    (fun _ _ h => h)
    (fun a b c hab hbc => Bool.eq_false_iff.mpr fun hac => by
      have h1 := (Bool.eq_false_iff.mp hab); have h2 := (Bool.eq_false_iff.mp hbc)
      rw [ne_eq, first_iff, not_lt] at h1 h2
      exact absurd ((first_iff s a c).mp hac) (not_lt.mpr (h1.trans h2))) i j hij
  have h' := Bool.eq_false_iff.mp h
  rwa [ne_eq, first_iff, not_lt] at h'

/-- The list is a list of greatest scores. -/
theorem listed_isTop (s : Fin n → EReal) (h : K ≤ n) : IsTop s (listed s h) where
  inj r r' hr := Fin.castLE_injective h (sortedFrom_injective _ hr)
  anti r r' hr := by
    rcases hr.lt_or_eq with hlt | rfl
    · exact listed_noInversion s _ _ hlt
    · exact le_rfl
  rest j hj r := by
    obtain ⟨k, rfl⟩ := sortedFrom_surjective (first s) j
    refine listed_noInversion s _ _ ?_
    by_contra hk
    have hkr : k.val ≤ r.val := not_lt.mp hk
    exact hj ⟨k.val, hkr.trans_lt r.isLt⟩ rfl

theorem along_ix2 {a : ℕ} (i : Fin a) (k k' : Fin n) :
    Shape.Idx.along (s := ⟨2, ![a, n]⟩) (ix2 i k) 1 k' = ix2 i k' := by
  funext d
  match d with
  | ⟨0, _⟩ => rfl
  | ⟨1, _⟩ => rfl

/-- A sort along the second axis, greater first, carrying a second table. -/
theorem sort2_apply {a : ℕ} (x : FVec Ideal ⟨2, ![a, n]⟩ .f32) (y : IVec ⟨2, ![a, n]⟩ 32) (i : Fin a) (k : Fin n) :
    (Host.sort2 ⟨2, ![a, n]⟩ 1 (fun l r => FloatOps.cmpfTotal (F := Ideal) (φ := .f32) .gt l.1 r.1) x y).1 (ix2 i k)
      = x (ix2 i (sortedFrom (first fun j => x (ix2 i j)) k))
    ∧ (Host.sort2 ⟨2, ![a, n]⟩ 1 (fun l r => FloatOps.cmpfTotal (F := Ideal) (φ := .f32) .gt l.1 r.1) x y).2 (ix2 i k)
      = y (ix2 i (sortedFrom (first fun j => x (ix2 i j)) k)) := by
  have hd : 1 < (⟨2, ![a, n]⟩ : Shape).rank := Nat.lt_succ_self 1
  have e : sortedFrom (fun u v : Fin n => FloatOps.cmpfTotal (F := Ideal) (φ := .f32) .gt
      (x (Shape.Idx.along (s := ⟨2, ![a, n]⟩) (ix2 i k) 1 u)) (x (Shape.Idx.along (s := ⟨2, ![a, n]⟩) (ix2 i k) 1 v)) == 1#1)
      = sortedFrom (first fun j => x (ix2 i j)) := by
    congr 1; funext u v; rw [along_ix2, along_ix2]
  unfold Host.sort2
  rw [dif_pos hd]
  constructor
  · exact congrArg x ((along_ix2 i k _).trans (congrArg (ix2 i) (congrFun e k)))
  · exact congrArg y ((along_ix2 i k _).trans (congrArg (ix2 i) (congrFun e k)))

/-- The operation's values are the scores at the listed rows, and its indices are those rows. -/
theorem topK_apply {a : ℕ} (x : FVec Ideal ⟨2, ![a, n]⟩ .f32) (hs : (⟨2, ![a, n]⟩ : Shape).Slices (fun _ => 0) ⟨2, ![a, K]⟩)
    (h : K ≤ n) (i : Fin a) (r : Fin K) :
    (Host.topK ⟨2, ![a, K]⟩ 1 (FloatOps.cmpfTotal (F := Ideal) (φ := .f32) .gt) x hs).1 (ix2 i r) = x (ix2 i (listed (fun j => x (ix2 i j)) h r))
    ∧ (Host.topK ⟨2, ![a, K]⟩ 1 (FloatOps.cmpfTotal (F := Ideal) (φ := .f32) .gt) x hs).2 (ix2 i r)
      = BitVec.ofNat 32 (listed (fun j => x (ix2 i j)) h r).val := by
  have hz (d : Fin 2) : ((ix2 i (r.castLE h) : (⟨2, ![a, n]⟩ : Shape).Idx) d).val = 0 + ((ix2 i r : (⟨2, ![a, K]⟩ : Shape).Idx) d).val := by
    match d with
    | ⟨0, _⟩ => exact (Nat.zero_add _).symm
    | ⟨1, _⟩ => exact (Nat.zero_add _).symm
  unfold Host.topK
  dsimp only
  constructor
  · exact (extractStridedSlice_apply _ _ hs (ix2 i r) (ix2 i (r.castLE h)) hz).trans (sort2_apply x _ i (r.castLE h)).1
  · refine (extractStridedSlice_apply _ _ hs (ix2 i r) (ix2 i (r.castLE h)) hz).trans ((sort2_apply x _ i (r.castLE h)).2.trans ?_)
    rw [dif_pos (Nat.lt_succ_self 1 : 1 < (⟨2, ![a, n]⟩ : Shape).rank)]
    rfl

end Cert.Topk
-- ==== Proof.RefScore.lean ====
/- The reference's scores and the rows it takes, at one place. -/
module

public import proofs.«01_k».proof.Proof.HeadDefs
public import proofs.«01_k».proof.Proof.Listed
public import proofs.«01_k».proof.Proof.Gen.ReferenceIdeal.Read
public import Idealize.ShloMosaic.Lib.Pointwise
public import Idealize.ShloMosaic.Lib.StableHlo.Predicate

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.ReferenceIdeal.Read

/-- A linear layer at a row. -/
def layer {a n : ℕ} (x : FVec Ideal ⟨2, ![n, a]⟩ .f32) (w : FVec Ideal ⟨2, ![128, a]⟩ .f32) (b : FVec Ideal S128 .f32) (i : Fin n) (h : Fin 128) : EReal :=
  (∑ k, x (ix2 i k) * w (ix2 h k)) + b (ix1 h)

/-- The reference's score of a table row for a query row. -/
def rscore (q : FVec Ideal S64x128 .f32) (wq : FVec Ideal S128x128 .f32) (bq : FVec Ideal S128 .f32) (wk : FVec Ideal S128x128 .f32) (bk : FVec Ideal S128 .f32)
    (tab : FVec Ideal S100000x128 .f32) (i : Fin 64) (j : Fin 100000) : EReal :=
  ∑ h, layer q wq bq i h * layer tab wk bk j h

theorem v21_at (q : FVec Ideal S64x128 .f32) (tab : FVec Ideal S100000x128 .f32) (wq : FVec Ideal S128x128 .f32) (bq : FVec Ideal S128 .f32) (wk : FVec Ideal S128x128 .f32) (bk : FVec Ideal S128 .f32)
    (i : Fin 64) (j : Fin 100000) :
    val_main_v21 (F := Ideal) q tab wq bq wk bk (ix2 i j) = rscore q wq bq wk bk tab i j := by
  unfold val_main_v21 val_main_v20 val_main_v19 val_main_v18 val_main_v17 val_main_v16 val_main_v15 val_main_v14 val_main_v13 val_main_v12 val_main_v11 val_main_v10 rscore layer
  pointwise

theorem v4_at (tab : FVec Ideal S100000x128 .f32) (wv : FVec Ideal S128x128 .f32) (bv : FVec Ideal S128 .f32)
    (j : Fin 100000) (h : Fin 128) :
    val_main_v4 (F := Ideal) tab wv bv (ix2 j h) = layer tab wv bv j h := by
  unfold val_main_v4 val_main_v3 val_main_v2 val_main_v1 val_main_v0 layer
  pointwise

theorem v36_at (q : FVec Ideal S64x128 .f32) (tab : FVec Ideal S100000x128 .f32) (wq : FVec Ideal S128x128 .f32) (bq : FVec Ideal S128 .f32) (wk : FVec Ideal S128x128 .f32) (bk : FVec Ideal S128 .f32)
   (wv : FVec Ideal S128x128 .f32) (bv : FVec Ideal S128 .f32)
    (i : Fin 64) (h : Fin 128) :
    val_main_v36 (F := Ideal) q tab wq bq wk bk wv bv (ix2 i h) = ∑ r, val_main_v34 (F := Ideal) q tab wq bq wk bk (ix2 i r) * val_main_v35 (F := Ideal) q tab wq bq wk bk wv bv (ix3 i r h) := by
  unfold val_main_v36
  pointwise

/-- A taken row: where the index table holds a row's number, the table's row. -/
theorem taken (z : FVec Ideal S100000x128 .f32) (idx : IVec S64x64x1 32) (i r : Fin 64) (h : Fin 128) (L : Fin 100000)
    (hL : idx (ix3 i r 0) = BitVec.ofNat 32 L.val) :
    Host.gather gather_S100000x128_S64x64x1_S64x64x128_2_0_n_n_0_2_1128 z idx (ix3 i r h) = z (ix2 L h) := by
  unfold Host.gather
  refine congrArg z (funext fun a => Fin.ext ?_)
  match a with
  | ⟨0, _⟩ =>
    show GatherDims.start gather_S100000x128_S64x64x1_S64x64x128_2_0_n_n_0_2_1128 (ix3 i r h) idx 0
      + GatherDims.batchCoord gather_S100000x128_S64x64x1_S64x64x128_2_0_n_n_0_2_1128 (ix3 i r h) 0
      + GatherDims.offCoord gather_S100000x128_S64x64x1_S64x64x128_2_0_n_n_0_2_1128 (ix3 i r h) 0 = L.val
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 2) ∈ gather_S100000x128_S64x64x1_S64x64x128_2_0_n_n_0_2_1128.startIndexMap from List.mem_singleton.mpr rfl)]
    have hsi : gather_S100000x128_S64x64x1_S64x64x128_2_0_n_n_0_2_1128.siIdx (ix3 i r h)
        ⟨List.idxOf (0 : Fin 2) gather_S100000x128_S64x64x1_S64x64x128_2_0_n_n_0_2_1128.startIndexMap,
          List.idxOf_lt_length_iff.2 (List.mem_singleton.mpr rfl)⟩ = ix3 i r 0 := by
      funext b; refine Fin.ext ?_
      match b with
      | ⟨0, _⟩ => rfl
      | ⟨1, _⟩ => rfl
      | ⟨2, _⟩ => rfl
    rw [hsi, hL, StableHlo.Predicate.toInt_ofNat_small _ (by have := L.isLt; omega)]
    show min ((L.val : Int)).toNat (100000 - 1) = L.val
    have := L.isLt
    omega
  | ⟨1, _⟩ =>
    show GatherDims.start gather_S100000x128_S64x64x1_S64x64x128_2_0_n_n_0_2_1128 (ix3 i r h) idx 1
      + GatherDims.batchCoord gather_S100000x128_S64x64x1_S64x64x128_2_0_n_n_0_2_1128 (ix3 i r h) 1
      + GatherDims.offCoord gather_S100000x128_S64x64x1_S64x64x128_2_0_n_n_0_2_1128 (ix3 i r h) 1 = h.val
    rw [GatherDims.batchCoord_eq_zero _ _ _ List.not_mem_nil]
    have hs : GatherDims.start gather_S100000x128_S64x64x1_S64x64x128_2_0_n_n_0_2_1128 (ix3 i r h) idx 1 = 0 := by
      unfold GatherDims.start
      rw [dif_neg (by decide)]
    rw [hs]
    simp only [Nat.zero_add]
    rfl

/-- A row's number is not negative and in the table's range. -/
theorem word_range (L : Fin 100000) :
    IntOp.cmpi .slt (BitVec.ofNat 32 L.val) 0#32 = 0#1 ∧ IntOp.cmpi .sge (BitVec.ofNat 32 L.val) 0#32 = 1#1
    ∧ IntOp.cmpi .sle (BitVec.ofNat 32 L.val) 99999#32 = 1#1 := by
  have h := StableHlo.Predicate.toInt_ofNat_small L.val (by have := L.isLt; omega)
  have h9 : (99999#32).toInt = 99999 := by decide
  have hL := L.isLt
  refine ⟨?_, ?_, ?_⟩
  · have : ¬ ((L.val : Int) < 0) := by omega
    simp [IntOp.cmpi, BitVec.slt, h, this]
  · simp [IntOp.cmpi, BitVec.sle, h]
  · have : (L.val : Int) ≤ 99999 := by omega
    simp [IntOp.cmpi, BitVec.sle, h, h9, this]

theorem v35_at (q : FVec Ideal S64x128 .f32) (tab : FVec Ideal S100000x128 .f32) (wq : FVec Ideal S128x128 .f32) (bq : FVec Ideal S128 .f32) (wk : FVec Ideal S128x128 .f32) (bk : FVec Ideal S128 .f32)
   (wv : FVec Ideal S128x128 .f32) (bv : FVec Ideal S128 .f32) (i r : Fin 64) (h : Fin 128) (L : Fin 100000)
    (hL : val_main_indices (F := Ideal) q tab wq bq wk bk (ix2 i r) = BitVec.ofNat 32 L.val) :
    val_main_v35 (F := Ideal) q tab wq bq wk bk wv bv (ix3 i r h) = layer tab wv bv L h := by
  rw [← v4_at]
  obtain ⟨h1, h2, h3⟩ := word_range L
  have hp : val_main_call0_v5 (F := Ideal) q tab wq bq wk bk (ix3 i r 0) = BitVec.ofNat 32 L.val := by
    unfold val_main_call0_v5 val_main_call0_v4 val_main_call0_v3 val_main_call0_v2 val_main_call0_v1 val_main_call0_v0
    revert hL
    generalize val_main_indices (F := Ideal) q tab wq bq wk bk = y
    intro hL
    pointwise
    rw [hL, show val_main_call0_c (F := Ideal) ix0 = 0#32 from rfl, h1]
    rfl
  have hm : val_main_call0_v14 (F := Ideal) q tab wq bq wk bk (ix3 i r h) = 1#1 := by
    unfold val_main_call0_v14 val_main_call0_v12 val_main_call0_v11 val_main_call0_v10 val_main_call0_v9 val_main_call0_v8 val_main_call0_v7 val_main_call0_v6
    revert hp
    generalize val_main_call0_v5 (F := Ideal) q tab wq bq wk bk = y
    intro hp
    pointwise
    simp only [Finset.univ_unique, Finset.fold_singleton]
    rw [show (default : Fin 1) = 0 from rfl, hp, show val_main_call0_c_2 (F := Ideal) ix0 = 0#32 from rfl,
      show val_main_call0_c_1 (F := Ideal) (ix1 0) = 99999#32 from rfl, h2, h3]
    rfl
  unfold val_main_v35
  show Scalar.select (val_main_call0_v14 (F := Ideal) q tab wq bq wk bk (ix3 i r h)) (val_main_call0_v13 (F := Ideal) q tab wq bq wk bk wv bv (ix3 i r h)) _ = _
  rw [hm]
  unfold val_main_call0_v13
  exact (if_pos rfl).trans <| taken _ _ i r h L hp

/-- The reference's weights are a softmax of the listed scores over the f32 `√128`. -/
theorem v34_at (q : FVec Ideal S64x128 .f32) (tab : FVec Ideal S100000x128 .f32) (wq : FVec Ideal S128x128 .f32) (bq : FVec Ideal S128 .f32) (wk : FVec Ideal S128x128 .f32) (bk : FVec Ideal S128 .f32)
    (i : Fin 64) (r : Fin 64) (v : Fin 64 → EReal) (hv : ∀ r, val_main_values (F := Ideal) q tab wq bq wk bk (ix2 i r) = v r) :
    val_main_v34 (F := Ideal) q tab wq bq wk bk (ix2 i r) =
      Ideal.div (Ideal.exp (Ideal.div (v r) ((11863283 / 1048576 : ℝ) : EReal)
          - max ⊥ (Finset.fold max ⊥ (fun r' => Ideal.div (v r') ((11863283 / 1048576 : ℝ) : EReal)) Finset.univ)))
        (0 + ∑ r'', Ideal.exp (Ideal.div (v r'') ((11863283 / 1048576 : ℝ) : EReal)
          - max ⊥ (Finset.fold max ⊥ (fun r' => Ideal.div (v r') ((11863283 / 1048576 : ℝ) : EReal)) Finset.univ))) := by
  have c0 : val_main_cst (F := Ideal) ix0 = ((11863283 / 1048576 : ℝ) : EReal) := by
    show Ideal.ofBits .f32 0x413504F3#32 = _
    simp [Ideal.ofBits, Ideal.ieee, -EReal.coe_mul]
    norm_num
  have c1 : val_main_cst_1 (F := Ideal) ix0 = ⊥ := by
    show Ideal.ofBits .f32 0xFF800000#32 = ⊥
    simp [Ideal.ofBits, Ideal.ieee]
  have c2 : val_main_cst_0 (F := Ideal) (Shape.Idx.first h_S_) = ⊥ := by
    show Ideal.ofBits .f32 0xFF800000#32 = ⊥
    simp [Ideal.ofBits, Ideal.ieee]
  have c3 : val_main_cst_2 (F := Ideal) (Shape.Idx.first h_S_) = 0 := by
    show Ideal.ofBits .f32 0#32 = 0
    simp [Ideal.ofBits, Ideal.ieee]
  unfold val_main_v34 val_main_v33 val_main_v32 val_main_v31 val_main_v30 val_main_v29 val_main_v28 val_main_v27 val_main_v26 val_main_v25 val_main_v24 val_main_v23 val_main_v22
  revert hv
  generalize val_main_values (F := Ideal) q tab wq bq wk bk = y
  intro hv
  pointwise
  rw [c0, c1, c2, c3]
  simp only [hv, zero_add]

end Cert.ReferenceIdeal.Value
-- ==== Proof.Weights.lean ====
/- A softmax over the listed rows, and the same weights gathered over the whole table by a threshold. -/
module

public import proofs.«01_k».proof.Proof.Listed
public import proofs.«01_k».proof.Proof.HeadDefs
public import Mathlib.Data.EReal.Operations
public import Mathlib.Data.EReal.Inv

@[expose] public section

set_option maxRecDepth 16384

noncomputable section

namespace Cert.Weights

open Idealize.ShloMosaic

/-- A sum over the rows above a bound is a sum over the list of them. -/
theorem sum_cut {N K : ℕ} (σ : Fin N → ℝ) (t : ℝ) (L : Fin K → Fin N) (inj : Function.Injective L)
    (cut : ∀ j, t ≤ σ j ↔ ∃ r, L r = j) (f : Fin N → ℝ) :
    (∑ j, if t ≤ σ j then f j else 0) = ∑ r, f (L r) := by
  rw [← Finset.sum_filter]
  have : (Finset.univ.filter fun j => t ≤ σ j) = Finset.univ.map ⟨L, inj⟩ := by
    ext j
    simp [cut j]
  rw [this, Finset.sum_map]
  rfl

/-- Weights that sum to one, of one factor apart from the kernel's, taken of a linear layer's rows: the layer of the weighted row. -/
theorem blend {K : ℕ} (e e' : Fin K → ℝ) (C : ℝ) (hC : C ≠ 0) (he : ∀ r, e' r = e r * C) (hZ : (∑ r, e r) ≠ 0)
    (A : Fin K → Fin 128 → ℝ) (w : Fin 128 → ℝ) (b : ℝ) :
    ∑ r, e' r / (∑ r', e' r') * ((∑ k, A r k * w k) + b) = (∑ k, (∑ r, e r * A r k) / (∑ r, e r) * w k) + b := by
  have hs : (∑ r', e' r') = (∑ r, e r) * C := by
    rw [Finset.sum_mul]
    exact Finset.sum_congr rfl fun r _ => he r
  have hw : ∀ r, e' r / (∑ r', e' r') = e r / ∑ r, e r := fun r => by
    rw [hs, he r, mul_div_mul_right _ _ hC]
  have h1 : ∑ r, e r / (∑ r, e r) = 1 := by
    rw [← Finset.sum_div, div_self hZ]
  calc ∑ r, e' r / (∑ r', e' r') * ((∑ k, A r k * w k) + b)
      = ∑ r, ((∑ k, e r / (∑ r, e r) * A r k * w k) + e r / (∑ r, e r) * b) :=
        Finset.sum_congr rfl fun r _ => by
          rw [hw, mul_add, Finset.mul_sum]
          exact congrArg (· + _) (Finset.sum_congr rfl fun k _ => by ring)
    _ = (∑ k, ∑ r, e r / (∑ r, e r) * A r k * w k) + (∑ r, e r / ∑ r, e r) * b := by
        rw [Finset.sum_add_distrib, Finset.sum_comm, ← Finset.sum_mul]
    _ = _ := by
        rw [h1, one_mul]
        refine congrArg (· + b) (Finset.sum_congr rfl fun k _ => ?_)
        rw [Finset.sum_div, Finset.sum_mul]
        exact Finset.sum_congr rfl fun r _ => by ring

theorem sum_coe {ι : Type} (u : Finset ι) (f : ι → ℝ) : (∑ i ∈ u, ((f i : ℝ) : EReal)) = ((∑ i ∈ u, f i : ℝ) : EReal) := by
  classical
  induction u using Finset.induction_on with
  | empty => simp
  | insert a u ha ih => rw [Finset.sum_insert ha, Finset.sum_insert ha, ih, EReal.coe_add]

theorem div_coe (a b : ℝ) (hb : b ≠ 0) : Ideal.div (a : EReal) (b : EReal) = ((a / b : ℝ) : EReal) := by
  unfold Ideal.div
  rw [if_neg (fun h => hb (EReal.coe_eq_zero.mp h)), div_eq_mul_inv, EReal.coe_mul, EReal.coe_inv]

theorem exp_coe (a : ℝ) : Ideal.exp (a : EReal) = ((Real.exp a : ℝ) : EReal) := rfl

/-- The greatest of finitely many reals is a real. -/
theorem fold_real {K : ℕ} (f : Fin (K + 1) → ℝ) :
    ∃ M : ℝ, max ⊥ (Finset.fold max ⊥ (fun r => ((f r : ℝ) : EReal)) Finset.univ) = (M : EReal) := by
  have key : ∀ u : Finset (Fin (K + 1)), u.fold max (⊥ : EReal) (fun r => ((f r : ℝ) : EReal)) ≠ ⊤ := by
    intro u
    classical
    induction u using Finset.induction_on with
    | empty => simp
    | insert a u ha ih =>
      rw [Finset.fold_insert ha]
      rcases max_cases ((f a : ℝ) : EReal) (u.fold max ⊥ fun r => ((f r : ℝ) : EReal)) with h | h
      · rw [h.1]; exact EReal.coe_ne_top _
      · rw [h.1]; exact ih
  have low : ((f 0 : ℝ) : EReal) ≤ Finset.univ.fold max (⊥ : EReal) (fun r => ((f r : ℝ) : EReal)) :=
    (Finset.le_fold_max _).mpr (Or.inr ⟨0, Finset.mem_univ _, le_rfl⟩)
  rw [max_eq_right bot_le]
  refine ⟨_, (EReal.coe_toReal (key _) ?_).symm⟩
  intro h
  rw [h] at low
  exact EReal.coe_ne_bot _ (le_bot_iff.mp low)

end Cert.Weights

end
-- ==== Proof.Direction.lean ====
/- One direction of the retrieval: with real arguments and few listed rows to a lane, what the kernel gathers by its threshold is what
   the reference takes by its list. -/
module

public import proofs.«01_k».proof.Proof.MidTop
public import proofs.«01_k».proof.Proof.Fold
public import proofs.«01_k».proof.Proof.RefScore
public import proofs.«01_k».proof.Proof.Weights

@[expose] public section

set_option maxRecDepth 16384

noncomputable section

namespace Cert.Direction

open Idealize.ShloMosaic Idealize.ShloMosaic.Tactic
open Cert.KernelIdeal Cert.KernelIdeal.Value
open Cert.ReferenceIdeal.Value (layer rscore)
open Cert.ReferenceIdeal.Read
open Cert.Topk (listed listed_isTop hits IsTop)
open Cert.Weights

/-- The rows of the 64 greatest of the reference's scores and of the 65 greatest. -/
abbrev best (s : Fin 100000 → EReal) : Fin 64 → Fin 100000 := listed s (by norm_num)
abbrev best' (s : Fin 100000 → EReal) : Fin 65 → Fin 100000 := listed s (by norm_num)

/-- A query row's scores stand apart: the 64th is above the 65th, and no lane holds too many rows of the 65. -/
structure Apart (s : Fin 100000 → EReal) : Prop where
  gap : s (best' s 64) < s (best' s 63)
  five : ∀ c < 25, ∀ l < 128, hits s (s (best' s 64)) c l ≤ 5
  ten : ∀ l < 128, ∑ c ∈ Finset.range 25, hits s (s (best' s 64)) c l ≤ 10

theorem hits_congr (s s' : Fin 100000 → EReal) (θ θ' : EReal) (h : ∀ j, θ ≤ s j ↔ θ' ≤ s' j) (hθ : θ ≠ ⊥) (hθ' : θ' ≠ ⊥) (c l : ℕ) :
    hits s θ c l = hits s' θ' c l := by
  unfold hits
  rw [Topk.reach_eq_sum, Topk.reach_eq_sum]
  refine Finset.sum_congr rfl fun k _ => ?_
  have : (θ ≤ Topk.lane s c l k) ↔ (θ' ≤ Topk.lane s' c l k) := by
    unfold Topk.lane
    split
    · exact h _
    · simp [hθ, hθ']
  simp only [this]

theorem half : Ideal.ofBits .f32 1056964608#32 = ((1 / 2 : ℝ) : EReal) := by
  simp [Ideal.ofBits, Ideal.ieee, -EReal.coe_mul]
  norm_num

/-- A weight of a real score under a real threshold. -/
theorem weight_coe (t m k : ℝ) :
    weight (t : EReal) (m : EReal) (k : EReal) = ((if t ≤ k then Real.exp ((k - m) * (1048576 / 11863283)) else 0 : ℝ) : EReal) := by
  unfold weight
  rw [← EReal.coe_sub, ← EReal.coe_mul, exp_coe]
  by_cases h : t ≤ k
  · rw [if_pos (EReal.coe_le_coe_iff.mpr h), if_pos h]
  · rw [if_neg (fun h' => h (EReal.coe_le_coe_iff.mp h')), if_neg h, EReal.coe_zero]

theorem regroup (P : Fin 128 → ℝ) (t : Fin 128 → ℝ) (W : Fin 128 → Fin 128 → ℝ) (b : Fin 128 → ℝ) :
    ∑ h, P h * ((∑ k, t k * W h k) + b h) = (∑ k, (∑ h, P h * W h k) * t k) + ∑ h, P h * b h := by
  simp only [mul_add, Finset.sum_add_distrib, Finset.mul_sum, Finset.sum_mul]
  rw [Finset.sum_comm]
  refine congrArg (· + _) (Finset.sum_congr rfl fun k _ => Finset.sum_congr rfl fun h _ => by ring)

section Reals

variable (Q : S64x128.Idx → ℝ) (Wq : S128x128.Idx → ℝ) (Bq : S128.Idx → ℝ) (Wk : S128x128.Idx → ℝ) (Bk : S128.Idx → ℝ)
  (T : S100000x128.Idx → ℝ)

/-- The query layer, the kernel's score and what the key layer's bias adds to it, over the reals. -/
def query (i : Fin 64) (h : Fin 128) : ℝ := (∑ k, Q (ix2 i k) * Wq (ix2 h k)) + Bq (ix1 h)
def plain (i : Fin 64) (j : Fin 100000) : ℝ := ∑ h, (∑ h', query Q Wq Bq i h' * Wk (ix2 h' h)) * T (ix2 j h)
def bias (i : Fin 64) : ℝ := ∑ h, query Q Wq Bq i h * Bk (ix1 h)

variable {q : FVec Ideal S64x128 .f32} {wq : FVec Ideal S128x128 .f32} {bq : FVec Ideal S128 .f32} {wk : FVec Ideal S128x128 .f32} {bk : FVec Ideal S128 .f32}
  {tab : FVec Ideal S100000x128 .f32}
  (hq : ∀ j, q j = ((Q j : ℝ) : EReal)) (hwq : ∀ j, wq j = ((Wq j : ℝ) : EReal)) (hbq : ∀ j, bq j = ((Bq j : ℝ) : EReal))
  (hwk : ∀ j, wk j = ((Wk j : ℝ) : EReal)) (hbk : ∀ j, bk j = ((Bk j : ℝ) : EReal)) (ht : ∀ j, tab j = ((T j : ℝ) : EReal))

include hq hwq hbq hwk ht in
theorem score_coe (i : Fin 64) (j : Fin 100000) :
    score (n := 100000) q wq (flat bq) wk tab i j = ((plain Q Wq Bq Wk T i j : ℝ) : EReal) := by
  unfold score flat plain query
  simp only [hq, hwq, hbq, hwk, ht, ← EReal.coe_mul, sum_coe, ← EReal.coe_add]
  rfl

include hq hwq hbq hwk hbk ht in
theorem rscore_coe (i : Fin 64) (j : Fin 100000) :
    rscore q wq bq wk bk tab i j = ((plain Q Wq Bq Wk T i j + bias Q Wq Bq Bk i : ℝ) : EReal) := by
  unfold rscore layer
  simp only [hq, hwq, hbq, hwk, hbk, ht, ← EReal.coe_mul, sum_coe, ← EReal.coe_add]
  exact congrArg _ (regroup (fun h => query Q Wq Bq i h) (fun k => T (ix2 j k)) (fun h k => Wk (ix2 h k)) (fun h => Bk (ix1 h)))

include hq hwq hbq hwk hbk ht in
/-- The kernel's scores and the reference's have the same list of the 65 greatest, and the kernel's stand apart as the reference's do. -/
theorem apart_plain (i : Fin 64) (ha : Apart (rscore q wq bq wk bk tab i)) :
    IsTop (score (n := 100000) q wq (flat bq) wk tab i) (best (rscore q wq bq wk bk tab i))
    ∧ IsTop (score (n := 100000) q wq (flat bq) wk tab i) (best' (rscore q wq bq wk bk tab i))
    ∧ plain Q Wq Bq Wk T i (best' (rscore q wq bq wk bk tab i) 64) < plain Q Wq Bq Wk T i (best' (rscore q wq bq wk bk tab i) 63)
    ∧ (∀ c < 25, ∀ l < 128, hits (score (n := 100000) q wq (flat bq) wk tab i) (score (n := 100000) q wq (flat bq) wk tab i (best' (rscore q wq bq wk bk tab i) 64)) c l ≤ 5)
    ∧ ∀ l < 128, ∑ c ∈ Finset.range 25, hits (score (n := 100000) q wq (flat bq) wk tab i) (score (n := 100000) q wq (flat bq) wk tab i (best' (rscore q wq bq wk bk tab i) 64)) c l ≤ 10 := by
  have hs := score_coe Q Wq Bq Wk T hq hwq hbq hwk ht i
  have hr := rscore_coe Q Wq Bq Wk Bk T hq hwq hbq hwk hbk ht i
  obtain ⟨gap, five, ten⟩ := ha
  have t64 := listed_isTop (K := 64) (rscore q wq bq wk bk tab i) (by norm_num)
  have t65 := listed_isTop (K := 65) (rscore q wq bq wk bk tab i) (by norm_num)
  generalize rscore q wq bq wk bk tab i = r at *
  generalize score (n := 100000) q wq (flat bq) wk tab i = s at *
  have iff : ∀ a b, s a ≤ s b ↔ r a ≤ r b := fun a b => by
    rw [hs, hs, hr, hr, EReal.coe_le_coe_iff, EReal.coe_le_coe_iff, add_le_add_iff_right]
  have nb : ∀ j, s j ≠ ⊥ := fun j => by rw [hs]; exact EReal.coe_ne_bot _
  have nb' : ∀ j, r j ≠ ⊥ := fun j => by rw [hr]; exact EReal.coe_ne_bot _
  have hh : ∀ c l, hits s (s (best' r 64)) c l = hits r (r (best' r 64)) c l := fun c l =>
    hits_congr _ _ _ _ (fun j => iff _ j) (nb _) (nb' _) c l
  refine ⟨t64.of_iff iff, t65.of_iff iff, ?_, ?_, ?_⟩
  · rw [hr, hr, EReal.coe_lt_coe_iff, add_lt_add_iff_right] at gap
    exact gap
  · intro c hc l hl
    rw [hh]
    exact five c hc l hl
  · intro l hl
    simp only [hh]
    exact ten l hl

include hq hwq hbq hwk hbk ht in
/-- The threshold falls between the 64 listed scores and the others. -/
theorem threshold (i : Fin 64) (ha : Apart (rscore q wq bq wk bk tab i)) :
    ∃ t m : ℝ, (∀ q', mid (F := Ideal) (found q wq bq wk tab) (ix2 i q') = (t : EReal))
      ∧ (∀ q', top (F := Ideal) (found q wq bq wk tab) (ix2 i q') = (m : EReal))
      ∧ ∀ j, t ≤ plain Q Wq Bq Wk T i j ↔ ∃ r, best (rscore q wq bq wk bk tab i) r = j := by
  obtain ⟨t64, t65, gap, five, ten⟩ := apart_plain Q Wq Bq Wk Bk T hq hwq hbq hwk hbk ht i ha
  have hs := score_coe Q Wq Bq Wk T hq hwq hbq hwk ht
  have nb : ∀ j, score (n := 100000) q wq (flat bq) wk tab i j ≠ ⊥ := fun j => by rw [hs]; exact EReal.coe_ne_bot _
  have hm := mid_apply (score (n := 100000) q wq (flat bq) wk tab) i _ t65 nb five ten
  have htop := top_apply (score (n := 100000) q wq (flat bq) wk tab) i _ t65 nb five ten
  refine ⟨(plain Q Wq Bq Wk T i (best' (rscore q wq bq wk bk tab i) 63) + plain Q Wq Bq Wk T i (best' (rscore q wq bq wk bk tab i) 64)) * (1 / 2),
    plain Q Wq Bq Wk T i (best' (rscore q wq bq wk bk tab i) 0), ?_, ?_, ?_⟩
  · intro q'
    refine (hm q').trans ?_
    rw [hs, hs, half, ← EReal.coe_add, ← EReal.coe_mul]
  · intro q'
    refine (htop q').trans ?_
    rw [hs]
  · intro j
    have cut := t64.cut t65 (((plain Q Wq Bq Wk T i (best' (rscore q wq bq wk bk tab i) 63) + plain Q Wq Bq Wk T i (best' (rscore q wq bq wk bk tab i) 64)) * (1 / 2) : ℝ) : EReal)
      (by
        show score (n := 100000) q wq (flat bq) wk tab i (best' (rscore q wq bq wk bk tab i) 64) < _
        rw [hs, EReal.coe_lt_coe_iff]
        linarith)
      (fun r => by
        refine le_trans ?_ (t64.anti r 63 (Nat.le_of_lt_succ r.isLt))
        rw [t64.score_eq t65 63 63 rfl, hs, EReal.coe_le_coe_iff]
        linarith) j
    rw [hs, EReal.coe_le_coe_iff] at cut
    exact cut

variable (Wv : S128x128.Idx → ℝ) (Bv : S128.Idx → ℝ) {wv : FVec Ideal S128x128 .f32} {bv : FVec Ideal S128 .f32}
  (hwv : ∀ j, wv j = ((Wv j : ℝ) : EReal)) (hbv : ∀ j, bv j = ((Bv j : ℝ) : EReal))

include hq hwq hbq hwk hbk ht hwv hbv in
/-- What the reference takes for a query row: a softmax of the listed scores over the value layer's listed rows. -/
theorem taken_coe (i : Fin 64) (h : Fin 128) :
    ∃ M : ℝ, val_main_v36 (F := Ideal) q tab wq bq wk bk wv bv (ix2 i h)
      = ((∑ r, Real.exp ((plain Q Wq Bq Wk T i (best (rscore q wq bq wk bk tab i) r) + bias Q Wq Bq Bk i) / (11863283 / 1048576) - M)
            / (∑ r', Real.exp ((plain Q Wq Bq Wk T i (best (rscore q wq bq wk bk tab i) r') + bias Q Wq Bq Bk i) / (11863283 / 1048576) - M))
          * ((∑ k, T (ix2 (best (rscore q wq bq wk bk tab i) r) k) * Wv (ix2 h k)) + Bv (ix1 h)) : ℝ) : EReal) := by
  have hr := rscore_coe Q Wq Bq Wk Bk T hq hwq hbq hwk hbk ht i
  have hrow : (fun j => val_main_v21 (F := Ideal) q tab wq bq wk bk (ix2 i j)) = rscore q wq bq wk bk tab i :=
    funext fun j => ReferenceIdeal.Value.v21_at q tab wq bq wk bk i j
  have hv : ∀ r, val_main_values (F := Ideal) q tab wq bq wk bk (ix2 i r) = rscore q wq bq wk bk tab i (best (rscore q wq bq wk bk tab i) r) := fun r => by
    unfold val_main_values
    refine (Topk.topK_apply (K := 64) _ _ (by norm_num) i r).1.trans ?_
    rw [hrow, ReferenceIdeal.Value.v21_at]
  have hi : ∀ r, val_main_indices (F := Ideal) q tab wq bq wk bk (ix2 i r) = BitVec.ofNat 32 (best (rscore q wq bq wk bk tab i) r).val := fun r => by
    unfold val_main_indices
    refine (Topk.topK_apply (K := 64) _ _ (by norm_num) i r).2.trans ?_
    rw [hrow]
  have h34 := fun r => ReferenceIdeal.Value.v34_at q tab wq bq wk bk i r _ hv
  have h35 := fun r => ReferenceIdeal.Value.v35_at q tab wq bq wk bk wv bv i r h _ (hi r)
  have hc : (11863283 / 1048576 : ℝ) ≠ 0 := by norm_num
  generalize rscore q wq bq wk bk tab i = rs at *
  have hdiv : ∀ r : Fin 64, Ideal.div (rs (best rs r)) ((11863283 / 1048576 : ℝ) : EReal)
      = (((plain Q Wq Bq Wk T i (best rs r) + bias Q Wq Bq Bk i) / (11863283 / 1048576) : ℝ) : EReal) := fun r => by
    rw [hr, div_coe _ _ hc]
  obtain ⟨M, hM⟩ := fold_real (K := 63) fun r => (plain Q Wq Bq Wk T i (best rs r) + bias Q Wq Bq Bk i) / (11863283 / 1048576)
  refine ⟨M, ?_⟩
  rw [ReferenceIdeal.Value.v36_at, ← sum_coe]
  refine Finset.sum_congr rfl fun r _ => ?_
  rw [h34 r, h35 r]
  simp only [hdiv]
  rw [hM]
  simp only [← EReal.coe_sub, exp_coe, sum_coe, zero_add]
  rw [div_coe _ _ (Finset.sum_pos (fun r _ => Real.exp_pos _) Finset.univ_nonempty).ne']
  unfold layer
  simp only [ht, hwv, hbv, ← EReal.coe_mul, sum_coe, ← EReal.coe_add]

include hq hwq hbq hwk hbk ht hwv hbv in
/-- The kernel's gathered row over its gathered weights, through the value layer, is what the reference takes. -/
theorem direction (i : Fin 64) (h : Fin 128) (ha : Apart (rscore q wq bq wk bk tab i)) :
    got (gathered q wq bq wk tab) (weighed q wq bq wk tab) wv (flat bv) i h = val_main_v36 (F := Ideal) q tab wq bq wk bk wv bv (ix2 i h) := by
  obtain ⟨t, m, hmid, htop, cut⟩ := threshold Q Wq Bq Wk Bk T hq hwq hbq hwk hbk ht i ha
  obtain ⟨M, hM⟩ := taken_coe Q Wq Bq Wk Bk T hq hwq hbq hwk hbk ht Wv Bv hwv hbv i h
  have hs := score_coe Q Wq Bq Wk T hq hwq hbq hwk ht i
  have inj := (listed_isTop (K := 64) (rscore q wq bq wk bk tab i) (by norm_num)).inj
  rw [hM]
  have hz : ∀ k, weighed q wq bq wk tab (ix2 i k)
      = ((∑ r, Real.exp ((plain Q Wq Bq Wk T i (best (rscore q wq bq wk bk tab i) r) - m) * (1048576 / 11863283)) : ℝ) : EReal) := fun k => by
    show (∑ r : Fin 100000, weight (mid (F := Ideal) (found q wq bq wk tab) (ix2 i 0)) (top (F := Ideal) (found q wq bq wk tab) (ix2 i 0)) (score (n := 100000) q wq (flat bq) wk tab i r)) = _
    rw [hmid, htop]
    simp only [hs, weight_coe, sum_coe]
    rw [sum_cut _ t _ inj cut]
  have hacc : ∀ k, gathered q wq bq wk tab (ix2 i k)
      = ((∑ r, Real.exp ((plain Q Wq Bq Wk T i (best (rscore q wq bq wk bk tab i) r) - m) * (1048576 / 11863283)) * T (ix2 (best (rscore q wq bq wk bk tab i) r) k) : ℝ) : EReal) := fun k => by
    show (∑ r : Fin 100000, weight (mid (F := Ideal) (found q wq bq wk tab) (ix2 i 0)) (top (F := Ideal) (found q wq bq wk tab) (ix2 i 0)) (score (n := 100000) q wq (flat bq) wk tab i r) * tab (ix2 r k)) = _
    rw [hmid, htop]
    simp only [hs, weight_coe, ht, ← EReal.coe_mul, sum_coe, ite_mul, zero_mul]
    rw [sum_cut _ t _ inj cut (fun r => Real.exp ((plain Q Wq Bq Wk T i r - m) * (1048576 / 11863283)) * T (ix2 r k))]
  have hpos : (∑ r, Real.exp ((plain Q Wq Bq Wk T i (best (rscore q wq bq wk bk tab i) r) - m) * (1048576 / 11863283))) ≠ 0 :=
    (Finset.sum_pos (fun r _ => Real.exp_pos _) Finset.univ_nonempty).ne'
  show (∑ k, Ideal.div (gathered q wq bq wk tab (ix2 i k)) (weighed q wq bq wk tab (ix2 i k)) * wv (ix2 h k)) + bv (ix1 h) = _
  simp only [hz, hacc, div_coe _ _ hpos, hwv, hbv, ← EReal.coe_mul, sum_coe, ← EReal.coe_add]
  refine congrArg _ (blend _ _ (Real.exp ((m + bias Q Wq Bq Bk i) / (11863283 / 1048576) - M)) (Real.exp_pos _).ne' (fun r => ?_) hpos
    (fun r k => T (ix2 (best (rscore q wq bq wk bk tab i) r) k)) (fun k => Wv (ix2 h k)) (Bv (ix1 h))).symm
  rw [← Real.exp_add]
  congr 1
  ring

end Reals

end Cert.Direction

end
-- ==== Proof.PreRead.lean ====
/- What the precondition says: the arguments are real, and each query row's scores stand apart. -/
module

public import proofs.«01_k».proof.Pre_separated
public import proofs.«01_k».proof.Proof.Direction
public import Idealize.ShloMosaic.Lib.ReduceAll
public import Idealize.ShloMosaic.Lib.Affine
public import Idealize.ShloMosaic.Lib.Pointwise

@[expose] public section

set_option maxRecDepth 16384

noncomputable section

namespace Cert.PreRead

open Idealize.ShloMosaic Idealize.ShloMosaic.Tactic
open Cert.Pre_separated Cert.Pre_separated.Facts
open Cert.ReferenceIdeal.Value (layer rscore)
open Cert.Direction (Apart best')
open Cert.Topk (listed listed_isTop hits)

variable [Cert.Pre_separated.Facts]

/-- That every entry is smaller than infinity in size. -/
def finiteBit {s : Shape} {axes : List (Fin s.rank)} (hb : S_.BroadcastsInDim s (![] : Fin 0 → Fin s.rank)) (hr : s.ReducesTo axes S_)
    (x : FVec Ideal s .f32) : IVec S_ 1 :=
  Host.reduce IntOp.andi (cmpf .olt (Host.absf x) (broadcastInDim s ![] hb (constant S_ .f32 0x7F800000#32))) (constantI S_ 1 1#1) hr h_S_

/-- The table of scores the precondition makes. -/
def scores (q : FVec Ideal S64x128 .f32) (wq : FVec Ideal S128x128 .f32) (bq : FVec Ideal S128 .f32) (tab : FVec Ideal S100000x128 .f32)
    (wk : FVec Ideal S128x128 .f32) (bk : FVec Ideal S128 .f32) : FVec Ideal S64x100000 .f32 :=
  Host.dotGeneral dot_S64x128_S128x100000_S64x100000_1_0_0_1_n_n none
    (addf (Host.dotGeneral dot_S64x128_S128x128_S64x128_1_0_0_1_n_n none q (transpose S128x128 [1, 0] wq transposes_S128x128_S128x128_1_0))
      (broadcastInDim S64x128 ![0, 1] bcast_S1x128_S64x128_0_1 (broadcastInDim S1x128 ![1] bcast_S128_S1x128_1 bq)))
    (transpose S128x100000 [1, 0]
      (addf (Host.dotGeneral dot_S100000x128_S128x128_S100000x128_1_0_0_1_n_n none tab (transpose S128x128 [1, 0] wk transposes_S128x128_S128x128_1_0))
        (broadcastInDim S100000x128 ![0, 1] bcast_S1x128_S100000x128_0_1 (broadcastInDim S1x128 ![1] bcast_S128_S1x128_1 bk)))
      transposes_S100000x128_S128x100000_1_0)

/-- The 65 greatest scores of each row. -/
def tops (sc : FVec Ideal S64x100000 .f32) : FVec Ideal S64x65 .f32 :=
  (Host.topK S64x65 1 (FloatOps.cmpfTotal .gt) sc sliceFits_S64x100000_S64x65).1

/-- One where a score reaches the 65th, zero elsewhere. -/
def reached (sc : FVec Ideal S64x100000 .f32) : FVec Ideal S64x100000 .f32 :=
  fn_where (F := Ideal) (cmpf .oge sc (broadcastInDim S64x100000 ![0, 1] bcast_S64x1_S64x100000_0_1
      (extractStridedSlice S64x1 ![0, 64] (tops sc) slices_S64x65_S64x1_0_64)))
    (constant S_ .f32 0x3F800000#32) (constant S_ .f32 0x00000000#32)

/-- How many of a lane's rows reach the 65th score, lane by lane of each block. -/
def counted (sc : FVec Ideal S64x100000 .f32) : FVec Ideal S64x25x128 .f32 :=
  Host.reduceAdd (shapeCast S64x25x32x128 (fn_pad (F := Ideal) (shapeCast S64x25x4000 (reached sc) shapeCasts_S64x100000_S64x25x4000) (constantI S_ 32 0#32))
      shapeCasts_S64x25x4096_S64x25x32x128) (constant S_ .f32 0x00000000#32) reducesTo_S64x25x32x128_S64x25x128_d2 h_S_

/-- That the scores stand apart. -/
def apartBit (sc : FVec Ideal S64x100000 .f32) : IVec S_ 1 :=
  andi (andi
    (Host.reduce IntOp.andi (cmpf .ogt (shapeCast S64 (extractStridedSlice S64x1 ![0, 63] (tops sc) slices_S64x65_S64x1_0_63) shapeCasts_S64x1_S64)
      (shapeCast S64 (extractStridedSlice S64x1 ![0, 64] (tops sc) slices_S64x65_S64x1_0_64) shapeCasts_S64x1_S64)) (constantI S_ 1 1#1) reducesTo_S64_S_d0 h_S_)
    (Host.reduce IntOp.andi (cmpf .ole (counted sc) (broadcastInDim S64x25x128 ![] bcast_S_S64x25x128 (constant S_ .f32 0x40A00000#32)))
      (constantI S_ 1 1#1) reducesTo_S64x25x128_S_d0_1_2 h_S_))
    (Host.reduce IntOp.andi (cmpf .ole (Host.reduceAdd (counted sc) (constant S_ .f32 0x00000000#32) reducesTo_S64x25x128_S64x128_d1 h_S_)
      (broadcastInDim S64x128 ![] bcast_S_S64x128 (constant S_ .f32 0x41200000#32))) (constantI S_ 1 1#1) reducesTo_S64x128_S_d0_1 h_S_)

theorem scores_apply (q : FVec Ideal S64x128 .f32) (wq : FVec Ideal S128x128 .f32) (bq : FVec Ideal S128 .f32) (tab : FVec Ideal S100000x128 .f32)
    (wk : FVec Ideal S128x128 .f32) (bk : FVec Ideal S128 .f32) (i : Fin 64) (j : Fin 100000) :
    scores q wq bq tab wk bk (ix2 i j) = rscore q wq bq wk bk tab i j := by
  unfold scores rscore layer
  pointwise

theorem finite_real {s : Shape} {axes : List (Fin s.rank)} (hb : S_.BroadcastsInDim s (![] : Fin 0 → Fin s.rank)) (hr : s.ReducesTo axes S_)
    (x : FVec Ideal s .f32) (h : finiteBit hb hr x ix0 = 1#1) : ∃ X : s.Idx → ℝ, ∀ j, x j = ((X j : ℝ) : EReal) := by
  have hsub : Subsingleton S_.Idx := ⟨fun a b => funext fun k => k.elim0⟩
  refine ⟨fun j => (x j).toReal, fun j => ?_⟩
  have hj := Host.reduce_andi_all _ _ hr h_S_ ix0 h j
  have hj' : BitVec.ofBool (decide (max (x j) (-(x j)) < Ideal.ofBits .f32 0x7F800000#32)) = 1#1 := hj
  rw [show Ideal.ofBits .f32 0x7F800000#32 = ⊤ by simp [Ideal.ofBits, Ideal.ieee]] at hj'
  have hlt : max (x j) (-(x j)) < ⊤ := by
    by_contra hn
    rw [decide_eq_false hn] at hj'
    exact absurd hj' (by decide)
  rw [max_lt_iff] at hlt
  refine (EReal.coe_toReal hlt.1.ne fun hbot => ?_).symm
  rw [hbot] at hlt
  exact absurd hlt.2 (by simp)

theorem reached_apply (sc : FVec Ideal S64x100000 .f32) (i : Fin 64) (j : Fin 100000) :
    reached sc (ix2 i j) = if sc (ix2 i (best' (fun j => sc (ix2 i j)) 64)) ≤ sc (ix2 i j) then 1 else 0 := by
  have ht : tops sc (ix2 i 64) = sc (ix2 i (best' (fun j => sc (ix2 i j)) 64)) := (Topk.topK_apply (K := 65) sc _ (by norm_num) i 64).1
  unfold reached fn_where
  revert ht
  generalize tops sc = z
  intro ht
  pointwise
  rw [ht]

/-- A block's scores with zeros put behind them. -/
theorem padded_apply (x : FVec Ideal S64x25x4000 .f32) (i : Fin 64) (c : Fin 25) (m : Fin 4096) :
    fn_pad (F := Ideal) x (constantI S_ 32 0#32) (ix3 i c m) = if h : m.val < 4000 then x (ix3 i c ⟨m.val, h⟩) else 0 := by
  unfold fn_pad
  dsimp only
  unfold pad
  by_cases h : m.val < 4000
  · rw [dif_pos h, dif_pos]
    · refine congrArg x (funext fun a => Fin.ext ?_)
      match a with
      | ⟨0, _⟩ => exact Nat.div_one _
      | ⟨1, _⟩ => exact Nat.div_one _
      | ⟨2, _⟩ => exact Nat.div_one _
    · intro a
      match a with
      | ⟨0, _⟩ => exact ⟨Nat.zero_le _, Nat.mod_one _, (Nat.div_one _).trans_lt i.isLt⟩
      | ⟨1, _⟩ => exact ⟨Nat.zero_le _, Nat.mod_one _, (Nat.div_one _).trans_lt c.isLt⟩
      | ⟨2, _⟩ => exact ⟨Nat.zero_le _, Nat.mod_one _, (Nat.div_one _).trans_lt h⟩
  · rw [dif_neg h, dif_neg]
    · show (((0#32 : BitVec 32).toInt : ℝ) : EReal) = 0
      simp
    · intro hin
      exact h ((Nat.div_one _).symm.trans_lt (hin 2).2.2)

theorem counted_apply (sc : FVec Ideal S64x100000 .f32) (hbot : ∀ j, sc j ≠ ⊥) (i : Fin 64) (c : Fin 25) (l : Fin 128) :
    counted sc (ix3 i c l) = ((hits (fun j => sc (ix2 i j)) (sc (ix2 i (best' (fun j => sc (ix2 i j)) 64))) c l : ℕ) : EReal) := by
  have hr := reached_apply sc i
  have hx : ∀ m : Fin 4000, shapeCast S64x25x4000 (reached sc) shapeCasts_S64x100000_S64x25x4000 (ix3 i c m)
      = reached sc (ix2 i ⟨4000 * c.val + m.val, by omega⟩) := fun m => by
    generalize reached sc = z
    pointwise
    congr 2
    simp only [Fin.mk.injEq]
    omega
  unfold counted
  have hp := fun m => padded_apply (shapeCast S64x25x4000 (reached sc) shapeCasts_S64x100000_S64x25x4000) i c m
  revert hp
  generalize fn_pad (F := Ideal) (shapeCast S64x25x4000 (reached sc) shapeCasts_S64x100000_S64x25x4000) (constantI S_ 32 0#32) = z
  intro hp
  pointwise
  unfold hits
  rw [Topk.reach_eq_sum, Finset.sum_range, Nat.cast_sum]
  refine Finset.sum_congr rfl fun k _ => ?_
  rw [hp]
  unfold Topk.lane
  by_cases h : 128 * k.val + l.val < 4000
  · rw [dif_pos (show k.val * 128 + l.val < 4000 by omega), dif_pos ⟨h, c.isLt⟩, hx, hr]
    have e : (⟨4000 * c.val + (k.val * 128 + l.val), by omega⟩ : Fin 100000) = ⟨4000 * c.val + (128 * k.val + l.val), by omega⟩ := by
      simp only [Fin.mk.injEq]
      omega
    rw [e]
    split <;> simp
  · rw [dif_neg (show ¬ (k.val * 128 + l.val < 4000) by omega), dif_neg (fun h' => h h'.1), if_neg (fun h' => hbot _ (le_bot_iff.mp h'))]
    simp

theorem of_bit {p : Prop} [Decidable p] (hp : BitVec.ofBool (decide p) = 1#1) : p := by
  by_contra hn
  rw [decide_eq_false hn] at hp
  exact absurd hp (by decide)

/-- What the precondition's bit for a table of scores says of each query row. -/
theorem apart_of_bit (sc : FVec Ideal S64x100000 .f32) (hb : ∀ j, sc j ≠ ⊥) (h : apartBit sc ix0 = 1#1) (i : Fin 64) :
    Apart (fun j => sc (ix2 i j)) := by
  have hsub : Subsingleton S_.Idx := ⟨fun a b => funext fun k => k.elim0⟩
  unfold apartBit at h
  have h' := IntOp.andi_eq_one.mp h
  obtain ⟨h1, h3⟩ := h'
  obtain ⟨h1, h2⟩ := IntOp.andi_eq_one.mp h1
  have ht := fun r => (Topk.topK_apply (K := 65) sc sliceFits_S64x100000_S64x65 (by norm_num) i r).1
  have g1 := Host.reduce_andi_all _ _ _ _ _ h1 (ix1 i)
  have g2 := fun c l => Host.reduce_andi_all _ _ _ _ _ h2 (ix3 i c l)
  have g3 := fun l => Host.reduce_andi_all _ _ _ _ _ h3 (ix2 i l)
  have hc' := fun c l => counted_apply sc hb i c l
  clear h1 h2 h3 h
  refine ⟨?_, ?_, ?_⟩
  · have e : cmpf .ogt (shapeCast S64 (extractStridedSlice S64x1 ![0, 63] (tops sc) slices_S64x65_S64x1_0_63) shapeCasts_S64x1_S64)
        (shapeCast S64 (extractStridedSlice S64x1 ![0, 64] (tops sc) slices_S64x65_S64x1_0_64) shapeCasts_S64x1_S64) (ix1 i)
        = BitVec.ofBool (decide (tops sc (ix2 i 64) < tops sc (ix2 i 63))) := by
      generalize tops sc = z
      pointwise
    have := of_bit (e ▸ g1)
    rwa [show tops sc (ix2 i 64) = _ from ht 64, show tops sc (ix2 i 63) = _ from ht 63] at this
  · intro c hc l hl
    have e : cmpf .ole (counted sc) (broadcastInDim S64x25x128 ![] bcast_S_S64x25x128 (constant S_ .f32 0x40A00000#32)) (ix3 i ⟨c, hc⟩ ⟨l, hl⟩)
        = BitVec.ofBool (decide (counted sc (ix3 i ⟨c, hc⟩ ⟨l, hl⟩) ≤ Ideal.ofBits .f32 0x40A00000#32)) := rfl
    have := of_bit (e ▸ g2 ⟨c, hc⟩ ⟨l, hl⟩)
    rw [hc', show Ideal.ofBits .f32 0x40A00000#32 = ((5 : ℕ) : EReal) by
      rw [show ((5 : ℕ) : EReal) = ((5 : ℝ) : EReal) from rfl]
      simp [Ideal.ofBits, Ideal.ieee, -EReal.coe_mul]
      norm_num] at this
    exact_mod_cast this
  · intro l hl
    have e : cmpf .ole (Host.reduceAdd (counted sc) (constant S_ .f32 0x00000000#32) reducesTo_S64x25x128_S64x128_d1 h_S_)
        (broadcastInDim S64x128 ![] bcast_S_S64x128 (constant S_ .f32 0x41200000#32)) (ix2 i ⟨l, hl⟩)
        = BitVec.ofBool (decide ((∑ c, counted sc (ix3 i c ⟨l, hl⟩)) ≤ Ideal.ofBits .f32 0x41200000#32)) := by
      generalize counted sc = z
      pointwise
    have := of_bit (e ▸ g3 ⟨l, hl⟩)
    simp only [hc'] at this
    rw [show Ideal.ofBits .f32 0x41200000#32 = ((10 : ℕ) : EReal) by
      rw [show ((10 : ℕ) : EReal) = ((10 : ℝ) : EReal) from rfl]
      simp [Ideal.ofBits, Ideal.ieee, -EReal.coe_mul]
      norm_num, ← Nat.cast_sum] at this
    rw [Finset.sum_range]
    exact_mod_cast this

/-- The precondition is the two tables' bits and the bits of the sixteen arguments that the scores and the values are made of. -/
theorem fn_eq (x0 : FVec Ideal S64x128 .f32) (x1 : FVec Ideal S64x128 .f32) (x2 : FVec Ideal S100000x128 .f32) (x3 : FVec Ideal S100000x128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) (x12 : FVec Ideal S128x128 .f32) (x13 : FVec Ideal S128 .f32) (x14 : FVec Ideal S128x128 .f32) (x15 : FVec Ideal S128 .f32) (x16 : FVec Ideal S128x256 .f32) (x17 : FVec Ideal S128 .f32) (x18 : FVec Ideal S128x256 .f32) (x19 : FVec Ideal S128 .f32) (x20 : FVec Ideal S128x128 .f32) (x21 : FVec Ideal S128 .f32) (x22 : FVec Ideal S128x128 .f32) (x23 : FVec Ideal S128 .f32) :
    Cert.Pre_separated.fn (F := Ideal) x0 x1 x2 x3 x4 x5 x6 x7 x8 x9 x10 x11 x12 x13 x14 x15 x16 x17 x18 x19 x20 x21 x22 x23
      = andi (andi (andi (andi (andi (andi (andi (andi (andi (andi (andi (andi (andi (andi (andi (andi (andi (apartBit (scores x1 x6 x7 x2 x8 x9)) (apartBit (scores x0 x4 x5 x3 x10 x11))) (finiteBit bcast_S_S64x128 reducesTo_S64x128_S_d0_1 x0)) (finiteBit bcast_S_S64x128 reducesTo_S64x128_S_d0_1 x1)) (finiteBit bcast_S_S100000x128 reducesTo_S100000x128_S_d0_1 x2)) (finiteBit bcast_S_S100000x128 reducesTo_S100000x128_S_d0_1 x3)) (finiteBit bcast_S_S128x128 reducesTo_S128x128_S_d0_1 x4)) (finiteBit bcast_S_S128 reducesTo_S128_S_d0 x5)) (finiteBit bcast_S_S128x128 reducesTo_S128x128_S_d0_1 x6)) (finiteBit bcast_S_S128 reducesTo_S128_S_d0 x7)) (finiteBit bcast_S_S128x128 reducesTo_S128x128_S_d0_1 x8)) (finiteBit bcast_S_S128 reducesTo_S128_S_d0 x9)) (finiteBit bcast_S_S128x128 reducesTo_S128x128_S_d0_1 x10)) (finiteBit bcast_S_S128 reducesTo_S128_S_d0 x11)) (finiteBit bcast_S_S128x128 reducesTo_S128x128_S_d0_1 x12)) (finiteBit bcast_S_S128 reducesTo_S128_S_d0 x13)) (finiteBit bcast_S_S128x128 reducesTo_S128x128_S_d0_1 x14)) (finiteBit bcast_S_S128 reducesTo_S128_S_d0 x15) := rfl

/-- A score of real arguments is real. -/
theorem rscore_real {q : FVec Ideal S64x128 .f32} {wq : FVec Ideal S128x128 .f32} {bq : FVec Ideal S128 .f32} {wk : FVec Ideal S128x128 .f32} {bk : FVec Ideal S128 .f32}
    {tab : FVec Ideal S100000x128 .f32} (hq : ∃ X : S64x128.Idx → ℝ, ∀ j, q j = ((X j : ℝ) : EReal)) (hwq : ∃ X : S128x128.Idx → ℝ, ∀ j, wq j = ((X j : ℝ) : EReal))
    (hbq : ∃ X : S128.Idx → ℝ, ∀ j, bq j = ((X j : ℝ) : EReal)) (hwk : ∃ X : S128x128.Idx → ℝ, ∀ j, wk j = ((X j : ℝ) : EReal))
    (hbk : ∃ X : S128.Idx → ℝ, ∀ j, bk j = ((X j : ℝ) : EReal)) (ht : ∃ X : S100000x128.Idx → ℝ, ∀ j, tab j = ((X j : ℝ) : EReal))
    (i : Fin 64) (j : Fin 100000) : rscore q wq bq wk bk tab i j ≠ ⊥ := by
  obtain ⟨Q, hq⟩ := hq
  obtain ⟨Wq, hwq⟩ := hwq
  obtain ⟨Bq, hbq⟩ := hbq
  obtain ⟨Wk, hwk⟩ := hwk
  obtain ⟨Bk, hbk⟩ := hbk
  obtain ⟨T, ht⟩ := ht
  rw [Direction.rscore_coe Q Wq Bq Wk Bk T hq hwq hbq hwk hbk ht]
  exact EReal.coe_ne_bot _

/-- What the bit for the table of scores of real arguments says. -/
theorem apart_of_scores {q : FVec Ideal S64x128 .f32} {wq : FVec Ideal S128x128 .f32} {bq : FVec Ideal S128 .f32} {wk : FVec Ideal S128x128 .f32} {bk : FVec Ideal S128 .f32}
    {tab : FVec Ideal S100000x128 .f32} (hb : ∀ i j, rscore q wq bq wk bk tab i j ≠ ⊥) (h : apartBit (scores q wq bq tab wk bk) ix0 = 1#1) (i : Fin 64) :
    Apart (rscore q wq bq wk bk tab i) := by
  have := apart_of_bit (scores q wq bq tab wk bk) (fun j => by
    have e : scores q wq bq tab wk bk j = rscore q wq bq wk bk tab (j 0) (j 1) :=
      (congrArg (scores q wq bq tab wk bk) (eq_ix2 j)).trans (scores_apply q wq bq tab wk bk (j 0) (j 1))
    rw [e]
    exact hb _ _) h i
  simpa only [scores_apply] using this

/-- The precondition, read. -/
theorem read (x0 : FVec Ideal S64x128 .f32) (x1 : FVec Ideal S64x128 .f32) (x2 : FVec Ideal S100000x128 .f32) (x3 : FVec Ideal S100000x128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) (x12 : FVec Ideal S128x128 .f32) (x13 : FVec Ideal S128 .f32) (x14 : FVec Ideal S128x128 .f32) (x15 : FVec Ideal S128 .f32) (x16 : FVec Ideal S128x256 .f32) (x17 : FVec Ideal S128 .f32) (x18 : FVec Ideal S128x256 .f32) (x19 : FVec Ideal S128 .f32) (x20 : FVec Ideal S128x128 .f32) (x21 : FVec Ideal S128 .f32) (x22 : FVec Ideal S128x128 .f32) (x23 : FVec Ideal S128 .f32)
    (h : Cert.Pre_separated.fn (F := Ideal) x0 x1 x2 x3 x4 x5 x6 x7 x8 x9 x10 x11 x12 x13 x14 x15 x16 x17 x18 x19 x20 x21 x22 x23 = fun _ => 1#1) :
    (∀ i, Apart (rscore x1 x6 x7 x8 x9 x2 i)) ∧ (∀ i, Apart (rscore x0 x4 x5 x10 x11 x3 i))
    ∧ (∃ X : S64x128.Idx → ℝ, ∀ j, x0 j = ((X j : ℝ) : EReal))
    ∧ (∃ X : S64x128.Idx → ℝ, ∀ j, x1 j = ((X j : ℝ) : EReal))
    ∧ (∃ X : S100000x128.Idx → ℝ, ∀ j, x2 j = ((X j : ℝ) : EReal))
    ∧ (∃ X : S100000x128.Idx → ℝ, ∀ j, x3 j = ((X j : ℝ) : EReal))
    ∧ (∃ X : S128x128.Idx → ℝ, ∀ j, x4 j = ((X j : ℝ) : EReal))
    ∧ (∃ X : S128.Idx → ℝ, ∀ j, x5 j = ((X j : ℝ) : EReal))
    ∧ (∃ X : S128x128.Idx → ℝ, ∀ j, x6 j = ((X j : ℝ) : EReal))
    ∧ (∃ X : S128.Idx → ℝ, ∀ j, x7 j = ((X j : ℝ) : EReal))
    ∧ (∃ X : S128x128.Idx → ℝ, ∀ j, x8 j = ((X j : ℝ) : EReal))
    ∧ (∃ X : S128.Idx → ℝ, ∀ j, x9 j = ((X j : ℝ) : EReal))
    ∧ (∃ X : S128x128.Idx → ℝ, ∀ j, x10 j = ((X j : ℝ) : EReal))
    ∧ (∃ X : S128.Idx → ℝ, ∀ j, x11 j = ((X j : ℝ) : EReal))
    ∧ (∃ X : S128x128.Idx → ℝ, ∀ j, x12 j = ((X j : ℝ) : EReal))
    ∧ (∃ X : S128.Idx → ℝ, ∀ j, x13 j = ((X j : ℝ) : EReal))
    ∧ (∃ X : S128x128.Idx → ℝ, ∀ j, x14 j = ((X j : ℝ) : EReal))
    ∧ (∃ X : S128.Idx → ℝ, ∀ j, x15 j = ((X j : ℝ) : EReal)) := by
  have h := congrFun h ix0
  rw [fn_eq] at h
  obtain ⟨h, b15⟩ := IntOp.andi_eq_one.mp h
  obtain ⟨h, b14⟩ := IntOp.andi_eq_one.mp h
  obtain ⟨h, b13⟩ := IntOp.andi_eq_one.mp h
  obtain ⟨h, b12⟩ := IntOp.andi_eq_one.mp h
  obtain ⟨h, b11⟩ := IntOp.andi_eq_one.mp h
  obtain ⟨h, b10⟩ := IntOp.andi_eq_one.mp h
  obtain ⟨h, b9⟩ := IntOp.andi_eq_one.mp h
  obtain ⟨h, b8⟩ := IntOp.andi_eq_one.mp h
  obtain ⟨h, b7⟩ := IntOp.andi_eq_one.mp h
  obtain ⟨h, b6⟩ := IntOp.andi_eq_one.mp h
  obtain ⟨h, b5⟩ := IntOp.andi_eq_one.mp h
  obtain ⟨h, b4⟩ := IntOp.andi_eq_one.mp h
  obtain ⟨h, b3⟩ := IntOp.andi_eq_one.mp h
  obtain ⟨h, b2⟩ := IntOp.andi_eq_one.mp h
  obtain ⟨h, b1⟩ := IntOp.andi_eq_one.mp h
  obtain ⟨h, b0⟩ := IntOp.andi_eq_one.mp h
  obtain ⟨u, v⟩ := IntOp.andi_eq_one.mp h
  have r0 := finite_real _ _ _ b0
  have r1 := finite_real _ _ _ b1
  have r2 := finite_real _ _ _ b2
  have r3 := finite_real _ _ _ b3
  have r4 := finite_real _ _ _ b4
  have r5 := finite_real _ _ _ b5
  have r6 := finite_real _ _ _ b6
  have r7 := finite_real _ _ _ b7
  have r8 := finite_real _ _ _ b8
  have r9 := finite_real _ _ _ b9
  have r10 := finite_real _ _ _ b10
  have r11 := finite_real _ _ _ b11
  have r12 := finite_real _ _ _ b12
  have r13 := finite_real _ _ _ b13
  have r14 := finite_real _ _ _ b14
  have r15 := finite_real _ _ _ b15
  exact ⟨apart_of_scores (rscore_real r1 r6 r7 r8 r9 r2) u, apart_of_scores (rscore_real r0 r4 r5 r10 r11 r3) v, r0, r1, r2, r3, r4, r5, r6, r7, r8, r9, r10, r11, r12, r13, r14, r15⟩

end Cert.PreRead

end
-- ==== Proof.RefHead.lean ====
/- The reference's last part, at one place. -/
module

public import proofs.«01_k».proof.Proof.RefScore

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.ReferenceIdeal.Read

/-- A row over its length, the length held off zero. -/
def unit (f : Fin 128 → EReal) (j : Fin 128) : EReal :=
  Ideal.div (f j) (max (Ideal.sqrt (∑ k, f k * f k)) ((2305843 / 2305843009213693952 : ℝ) : EReal))

section One
variable (x0 : FVec Ideal S64x128 .f32) (x3 : FVec Ideal S100000x128 .f32) (x4 : FVec Ideal S128x128 .f32) (x5 : FVec Ideal S128 .f32)
  (x10 : FVec Ideal S128x128 .f32) (x11 : FVec Ideal S128 .f32) (x14 : FVec Ideal S128x128 .f32) (x15 : FVec Ideal S128 .f32)
  (x16 : FVec Ideal S128x256 .f32) (x17 : FVec Ideal S128 .f32) (x20 : FVec Ideal S128x128 .f32) (x21 : FVec Ideal S128 .f32)

/-- What a side's row becomes: the query beside what its attention takes, through the tower. -/
def side (i : Fin 64) (j : Fin 128) : EReal :=
  Head.tower (fun k => x0 (ix2 i k)) (fun k => val_main_v36 (F := Ideal) x0 x3 x4 x5 x10 x11 x14 x15 (ix2 i k))
    (fun j k => x16 (ix2 j k)) (fun j => x17 (ix1 j)) (fun j k => x20 (ix2 j k)) (fun j => x21 (ix1 j)) j

theorem beside (x y : FVec Ideal S64x128 .f32) (i : Fin 64) (k : Fin 256) :
    concatenate S64x256 1 [⟨S64x128, x⟩, ⟨S64x128, y⟩] concatenates_S64x128_S64x128_S64x256_d1 (ix2 i k)
      = Head.pair (fun k => x (ix2 i k)) (fun k => y (ix2 i k)) k := by
  unfold Head.pair
  pointwise

theorem v76_at (i : Fin 64) (j : Fin 128) :
    val_main_v76 (F := Ideal) x0 x3 x4 x5 x10 x11 x14 x15 x16 x17 x20 x21 (ix2 i j)
      = side x0 x3 x4 x5 x10 x11 x14 x15 x16 x17 x20 x21 i j := by
  have h63 : val_main_v63 (F := Ideal) x0 x3 x4 x5 x10 x11 x14 x15 = val_main_v36 (F := Ideal) x0 x3 x4 x5 x10 x11 x14 x15 := rfl
  have c0 : val_main_call2_cst (F := Ideal) ix0 = 0 := by
    show Ideal.ofBits .f32 0#32 = 0
    simp [Ideal.ofBits, Ideal.ieee]
  unfold side val_main_v76 val_main_v75 val_main_v74 val_main_v73 val_main_v72 val_main_v71 val_main_call2_v0 val_main_v70 val_main_v69 val_main_v68 val_main_v67 val_main_v66 Head.tower Head.lin
  have h64 : ∀ k, val_main_v64 (F := Ideal) x0 x3 x4 x5 x10 x11 x14 x15 (ix2 i k)
      = Head.pair (fun k => x0 (ix2 i k)) (fun k => val_main_v36 (F := Ideal) x0 x3 x4 x5 x10 x11 x14 x15 (ix2 i k)) k := by
    intro k
    unfold val_main_v64
    rw [h63]
    exact beside _ _ i k
  revert h64
  generalize val_main_v64 (F := Ideal) x0 x3 x4 x5 x10 x11 x14 x15 = y
  intro h64
  pointwise
  simp only [h64, c0]

theorem v92_at (i : Fin 64) (j : Fin 128) :
    val_main_v92 (F := Ideal) x0 x3 x4 x5 x10 x11 x14 x15 x16 x17 x20 x21 (ix2 i j)
      = unit (side x0 x3 x4 x5 x10 x11 x14 x15 x16 x17 x20 x21 i) j := by
  have h76 : ∀ j, val_main_v76 (F := Ideal) x0 x3 x4 x5 x10 x11 x14 x15 x16 x17 x20 x21 (ix2 i j) = _ := v76_at x0 x3 x4 x5 x10 x11 x14 x15 x16 x17 x20 x21 i
  have c0 : val_main_cst_9 (F := Ideal) ix0 = ((2305843 / 2305843009213693952 : ℝ) : EReal) := by
    show Ideal.ofBits .f32 0x2B8CBCCC#32 = _
    simp [Ideal.ofBits, Ideal.ieee, -EReal.coe_mul]
    norm_num
  have c1 : val_main_call4_cst (F := Ideal) (Shape.Idx.first h_S_) = 0 := by
    show Ideal.ofBits .f32 0#32 = 0
    simp [Ideal.ofBits, Ideal.ieee]
  unfold val_main_v92 val_main_v91 val_main_v90 val_main_v89 val_main_v88 val_main_call4_v2 val_main_call4_v1 val_main_call4_v0 unit
  revert h76
  generalize val_main_v76 (F := Ideal) x0 x3 x4 x5 x10 x11 x14 x15 x16 x17 x20 x21 = y
  intro h76
  pointwise
  simp only [h76, c0, c1, zero_add]

end One

variable (x0 x1 : FVec Ideal S64x128 .f32) (x2 x3 : FVec Ideal S100000x128 .f32) (x4 : FVec Ideal S128x128 .f32) (x5 : FVec Ideal S128 .f32)
  (x6 : FVec Ideal S128x128 .f32) (x7 : FVec Ideal S128 .f32) (x8 : FVec Ideal S128x128 .f32) (x9 : FVec Ideal S128 .f32)
  (x10 : FVec Ideal S128x128 .f32) (x11 : FVec Ideal S128 .f32) (x12 : FVec Ideal S128x128 .f32) (x13 : FVec Ideal S128 .f32)
  (x14 : FVec Ideal S128x128 .f32) (x15 : FVec Ideal S128 .f32)
  (x16 : FVec Ideal S128x256 .f32) (x17 : FVec Ideal S128 .f32) (x18 : FVec Ideal S128x256 .f32) (x19 : FVec Ideal S128 .f32)
  (x20 : FVec Ideal S128x128 .f32) (x21 : FVec Ideal S128 .f32) (x22 : FVec Ideal S128x128 .f32) (x23 : FVec Ideal S128 .f32)

/-- The reference's result for a pair. -/
theorem v103_at (i : Fin 64) :
    val_main_v103 (F := Ideal) x0 x1 x2 x3 x4 x5 x6 x7 x8 x9 x10 x11 x12 x13 x14 x15 x16 x17 x18 x19 x20 x21 x22 x23 (ix1 i)
      = (∑ j, unit (side x0 x3 x4 x5 x10 x11 x14 x15 x16 x17 x20 x21 i) j * unit (side x1 x2 x6 x7 x8 x9 x12 x13 x18 x19 x22 x23 i) j + 1)
        * Ideal.ofBits .f32 1056964608#32 := by
  have h97 : val_main_v97 (F := Ideal) x1 x2 x6 x7 x8 x9 x12 x13 x18 x19 x22 x23 = val_main_v92 (F := Ideal) x1 x2 x6 x7 x8 x9 x12 x13 x18 x19 x22 x23 := rfl
  have c0 : val_main_cst_11 (F := Ideal) (Shape.Idx.first h_S_) = 0 := by
    show Ideal.ofBits .f32 0#32 = 0
    simp [Ideal.ofBits, Ideal.ieee]
  have c1 : val_main_cst_12 (F := Ideal) ix0 = 1 := by
    show Ideal.ofBits .f32 0x3F800000#32 = 1
    simp [Ideal.ofBits, Ideal.ieee, -EReal.coe_mul]
    norm_num
  have c2 : val_main_cst_13 (F := Ideal) ix0 = Ideal.ofBits .f32 1056964608#32 := rfl
  unfold val_main_v103 val_main_v102 val_main_v101 val_main_v100 val_main_v99 val_main_v98
  rw [h97]
  have ha := v92_at x0 x3 x4 x5 x10 x11 x14 x15 x16 x17 x20 x21 i
  have hb := v92_at x1 x2 x6 x7 x8 x9 x12 x13 x18 x19 x22 x23 i
  revert ha hb
  generalize val_main_v92 (F := Ideal) x0 x3 x4 x5 x10 x11 x14 x15 x16 x17 x20 x21 = y
  generalize val_main_v92 (F := Ideal) x1 x2 x6 x7 x8 x9 x12 x13 x18 x19 x22 x23 = z
  intro ha hb
  pointwise
  simp only [ha, hb, c0, c1, c2, zero_add]

end Cert.ReferenceIdeal.Value

end
-- ==== Proof.UnitRow.lean ====
/- A row over its length, two ways. -/
module

public import proofs.«01_k».proof.Proof.RefHead
public import proofs.«01_k».proof.Proof.HeadVal
public import proofs.«01_k».proof.Proof.Weights

@[expose] public section

set_option maxRecDepth 16384

noncomputable section

namespace Cert.Weights

open Idealize.ShloMosaic

theorem square_nonneg (x : EReal) : 0 ≤ x * x := by
  induction x using EReal.rec with
  | bot => simp
  | top => simp
  | coe r => exact_mod_cast mul_self_nonneg r

/-- The reciprocal square root of a square held off zero is the reciprocal of the length held off zero. -/
theorem scaled_eq_unit (f : Fin 128 → EReal) : KernelIdeal.Value.scaled f = ReferenceIdeal.Value.unit f := by
  funext j
  unfold KernelIdeal.Value.scaled ReferenceIdeal.Value.unit
  have h0 : 0 ≤ ∑ k, f k * f k := Finset.sum_nonneg fun k _ => square_nonneg _
  generalize (∑ k, f k * f k) = ss at h0
  have he : (5316911940649 / 5316911983139663491615228241121378304 : ℝ) = (2305843 / 2305843009213693952) ^ 2 := by norm_num
  rw [he]
  have hp : (0 : ℝ) < 2305843 / 2305843009213693952 := by norm_num
  generalize (2305843 / 2305843009213693952 : ℝ) = e at hp
  induction ss using EReal.rec with
  | bot => simp at h0
  | top =>
    rw [max_eq_left le_top]
    show f j * 0 = Ideal.div (f j) (max ⊤ _)
    rw [max_eq_left le_top]
    unfold Ideal.div
    rw [if_neg (by simp)]
    simp
  | coe r =>
    have hr : 0 ≤ r := by exact_mod_cast h0
    have h1 : Ideal.sqrt (r : EReal) = ((Real.sqrt r : ℝ) : EReal) := by
      show (if r < 0 then ⊥ else ((Real.sqrt r : ℝ) : EReal)) = _
      rw [if_neg (not_lt.mpr hr)]
    have hm : max (r : EReal) ((e ^ 2 : ℝ) : EReal) = ((max r (e ^ 2) : ℝ) : EReal) := (EReal.coe_strictMono.monotone.map_max).symm
    have hm' : max ((Real.sqrt r : ℝ) : EReal) (e : EReal) = ((max (Real.sqrt r) e : ℝ) : EReal) := (EReal.coe_strictMono.monotone.map_max).symm
    have hpos : 0 < max r (e ^ 2) := lt_max_of_lt_right (by positivity)
    have hroot : Real.sqrt (max r (e ^ 2)) = max (Real.sqrt r) e := by
      rw [(show Monotone Real.sqrt from fun a b h => Real.sqrt_le_sqrt h).map_max, Real.sqrt_sq hp.le]
    have h2 : Ideal.rsqrt ((max r (e ^ 2) : ℝ) : EReal) = (((max (Real.sqrt r) e)⁻¹ : ℝ) : EReal) := by
      rw [← hroot]
      show (if max r (e ^ 2) < 0 then ⊥ else if max r (e ^ 2) = 0 then ⊤ else (((Real.sqrt (max r (e ^ 2)))⁻¹ : ℝ) : EReal)) = _
      rw [if_neg (not_lt.mpr hpos.le), if_neg hpos.ne']
    rw [h1, hm, hm', h2]
    unfold Ideal.div
    rw [if_neg (fun h => (lt_max_of_lt_right hp : 0 < max (Real.sqrt r) e).ne' (EReal.coe_eq_zero.mp h)), EReal.coe_inv]

end Cert.Weights

end
-- ==== Proof.KernelRun.lean ====
/- The kernel's run over the extended reals: its result and its arguments, read off the last contents. -/
module

public import proofs.«01_k».proof.Proof.Fold

@[expose] public section

set_option maxRecDepth 16384

noncomputable section

namespace Cert.KernelIdeal.Value

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The kernel's result on a device, from what its arguments hold at launch. -/
def result (c : Dev nD) : FVec Ideal S64 .f32 := fun j =>
    outcome (arg m c main_arg0) (arg m c main_arg1) (arg m c main_arg2) (arg m c main_arg3) (arg m c main_arg4) (arg m c main_arg5)
      (arg m c main_arg6) (arg m c main_arg7) (arg m c main_arg8) (arg m c main_arg10) (arg m c main_arg12) (arg m c main_arg13)
      (arg m c main_arg14) (arg m c main_arg15) (arg m c main_arg16) (arg m c main_arg17) (arg m c main_arg18) (arg m c main_arg19)
      (arg m c main_arg20) (arg m c main_arg21) (arg m c main_arg22) (arg m c main_arg23) (j 0)

set_option backward.isDefEq.respectTransparency.types false in
/-- Every run of the kernel ends with the result buffer at `result` and the arguments as launched. -/
theorem run : θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz c =>
      ⟨(h c _ (mem_uc main_v17 (by decide))).trans (W13_v17 m ρ c),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c),
       (h c _ (mem_uc main_arg23 (by decide))).trans (W13_main_arg23 m ρ c)⟩)

end Cert.KernelIdeal.Value
-- ==== Proof.Equal.lean ====
/- The kernel's result is the reference's, where the precondition holds. -/
module

public import proofs.«01_k».proof.Proof.PreRead
public import proofs.«01_k».proof.Proof.UnitRow
public import proofs.«01_k».proof.Proof.KernelRun
public import proofs.«01_k».proof.Proof.Frames
public import proofs.«01_k».proof.Proof.Gen.Pre_separated

@[expose] public section

set_option maxRecDepth 16384

noncomputable section

namespace Cert.Proof

open Idealize.ShloMosaic Idealize.ShloMosaic.TcCoe Idealize.ShloMosaic.Tactic Idealize.SL.Sem
open Cert.Pre_separated
open Cert.KernelIdeal.Value (got gathered weighed flat rows mat row1 headOf meet outcome)
open Cert.ReferenceIdeal.Value (rscore side unit)
open Cert.ReferenceIdeal.Read
open Cert.Direction (Apart)

/-- A side of the kernel's last launch is the reference's, when the side's scores stand apart and what they are made of is real. -/
theorem side_eq (q : FVec Ideal S64x128 .f32) (tab : FVec Ideal S100000x128 .f32) (wq : FVec Ideal S128x128 .f32) (bq : FVec Ideal S128 .f32)
    (wk : FVec Ideal S128x128 .f32) (bk : FVec Ideal S128 .f32) (wv : FVec Ideal S128x128 .f32) (bv : FVec Ideal S128 .f32)
    (w1 : FVec Ideal S128x256 .f32) (v1 : FVec Ideal S128 .f32) (w2 : FVec Ideal S128x128 .f32) (v2 : FVec Ideal S128 .f32)
    (hq : ∃ X : S64x128.Idx → ℝ, ∀ j, q j = ((X j : ℝ) : EReal)) (ht : ∃ X : S100000x128.Idx → ℝ, ∀ j, tab j = ((X j : ℝ) : EReal))
    (hwq : ∃ X : S128x128.Idx → ℝ, ∀ j, wq j = ((X j : ℝ) : EReal)) (hbq : ∃ X : S128.Idx → ℝ, ∀ j, bq j = ((X j : ℝ) : EReal))
    (hwk : ∃ X : S128x128.Idx → ℝ, ∀ j, wk j = ((X j : ℝ) : EReal)) (hbk : ∃ X : S128.Idx → ℝ, ∀ j, bk j = ((X j : ℝ) : EReal))
    (hwv : ∃ X : S128x128.Idx → ℝ, ∀ j, wv j = ((X j : ℝ) : EReal)) (hbv : ∃ X : S128.Idx → ℝ, ∀ j, bv j = ((X j : ℝ) : EReal))
    (i : Fin 64) (ha : Apart (rscore q wq bq wk bk tab i)) :
    Head.tower (rows q i) (got (gathered q wq bq wk tab) (weighed q wq bq wk tab) wv (flat bv) i) (mat w1) (row1 (flat v1)) (mat w2) (row1 (flat v2))
      = side q tab wq bq wk bk wv bv w1 v1 w2 v2 i := by
  obtain ⟨Q, hq⟩ := hq
  obtain ⟨T, ht⟩ := ht
  obtain ⟨Wq, hwq⟩ := hwq
  obtain ⟨Bq, hbq⟩ := hbq
  obtain ⟨Wk, hwk⟩ := hwk
  obtain ⟨Bk, hbk⟩ := hbk
  obtain ⟨Wv, hwv⟩ := hwv
  obtain ⟨Bv, hbv⟩ := hbv
  have h : got (gathered q wq bq wk tab) (weighed q wq bq wk tab) wv (flat bv) i
      = fun k => val_main_v36 (F := Ideal) q tab wq bq wk bk wv bv (ix2 i k) :=
    funext fun k => Direction.direction Q Wq Bq Wk Bk T hq hwq hbq hwk hbk ht Wv Bv hwv hbv i k ha
  rw [h]
  rfl

/-- The kernel's result for a pair is the reference's, where the precondition holds. -/
theorem outcome_eq (x0 : FVec Ideal S64x128 .f32) (x1 : FVec Ideal S64x128 .f32) (x2 : FVec Ideal S100000x128 .f32) (x3 : FVec Ideal S100000x128 .f32) (x4 : FVec Ideal S128x128 .f32) (x5 : FVec Ideal S128 .f32) (x6 : FVec Ideal S128x128 .f32) (x7 : FVec Ideal S128 .f32) (x8 : FVec Ideal S128x128 .f32) (x9 : FVec Ideal S128 .f32) (x10 : FVec Ideal S128x128 .f32) (x11 : FVec Ideal S128 .f32) (x12 : FVec Ideal S128x128 .f32) (x13 : FVec Ideal S128 .f32) (x14 : FVec Ideal S128x128 .f32) (x15 : FVec Ideal S128 .f32) (x16 : FVec Ideal S128x256 .f32) (x17 : FVec Ideal S128 .f32) (x18 : FVec Ideal S128x256 .f32) (x19 : FVec Ideal S128 .f32) (x20 : FVec Ideal S128x128 .f32) (x21 : FVec Ideal S128 .f32) (x22 : FVec Ideal S128x128 .f32) (x23 : FVec Ideal S128 .f32)
    (h : Cert.Pre_separated.fn (F := Ideal) x0 x1 x2 x3 x4 x5 x6 x7 x8 x9 x10 x11 x12 x13 x14 x15 x16 x17 x18 x19 x20 x21 x22 x23 = fun _ => 1#1) (i : Fin 64) :
    outcome x0 x1 x2 x3 x4 x5 x6 x7 x8 x10 x12 x13 x14 x15 x16 x17 x18 x19 x20 x21 x22 x23 i
      = val_main_v103 (F := Ideal) x0 x1 x2 x3 x4 x5 x6 x7 x8 x9 x10 x11 x12 x13 x14 x15 x16 x17 x18 x19 x20 x21 x22 x23 (ix1 i) := by
  obtain ⟨a1, a0, r0, r1, r2, r3, r4, r5, r6, r7, r8, r9, r10, r11, r12, r13, r14, r15⟩ := PreRead.read x0 x1 x2 x3 x4 x5 x6 x7 x8 x9 x10 x11 x12 x13 x14 x15 x16 x17 x18 x19 x20 x21 x22 x23 h
  rw [Cert.ReferenceIdeal.Value.v103_at]
  unfold outcome headOf meet
  rw [Weights.scaled_eq_unit, Weights.scaled_eq_unit,
    side_eq x0 x3 x4 x5 x10 x11 x14 x15 x16 x17 x20 x21 r0 r3 r4 r5 r10 r11 r14 r15 i (a0 i),
    side_eq x1 x2 x6 x7 x8 x9 x12 x13 x18 x19 x22 x23 r1 r2 r6 r7 r8 r9 r12 r13 i (a1 i)]

/-- Over the extended reals the kernel and the reference end with equal results, where the precondition holds. -/
theorem results_equal : Cert.algebraic_KernelIdeal_ReferenceIdeal_pre_separated := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23⟩ := hagree c
  rw [val_main_v103_eq m' c, e0, e1, e2, e3, e4, e5, e6, e7, e8, e9, e10, e11, e12, e13, e14, e15, e16, e17, e18, e19, e20, e21, e22, e23]
  funext j
  have e : j = ix1 (j 0) := eq_ix1 j
  refine (congrArg _ e).trans ?_
  exact (outcome_eq _ _ _ _ _ _ _ _ _ _ _ _ _ _ _ _ _ _ _ _ _ _ _ _ (hpre c) (j 0)).symm

end Cert.Proof

end
-- ==== Proof.lean ====
/- The claims of the certificate, each proved in the modules below. -/
module

public import proofs.«01_k».proof.Defs
public import proofs.«01_k».proof.Proof.Frames
public import proofs.«01_k».proof.Proof.Equal
public import proofs.«01_k».proof.Proof.Gen.ReferenceIdeal.Read
public import proofs.«01_k».proof.Proof.Gen.Pre_separated

@[expose] public section

noncomputable section

namespace Cert.Proof

theorem claim : Cert.Claim :=
  ⟨Cert.Kernel.Gen.facts, Cert.KernelIdeal.Gen.facts, Cert.ReferenceIdeal.Gen.facts, Cert.Pre_separated.Gen.facts,
    frame_kernel, frame_ideal, frame_ideal_pre, frame_reference, frame_reference_pre, constants_kept, results_equal⟩

end Cert.Proof

end
